-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S3x256x4096 : Shape := ⟨3, ![3, 256, 4096]⟩
abbrev S3x2 : Shape := ⟨2, ![3, 2]⟩
abbrev S1x128 : Shape := ⟨2, ![1, 128]⟩
abbrev S8x128 : Shape := ⟨2, ![8, 128]⟩
abbrev S7 : Shape := ⟨1, ![7]⟩
abbrev S256x4096 : Shape := ⟨2, ![256, 4096]⟩
abbrev S1x256x4096 : Shape := ⟨3, ![1, 256, 4096]⟩
abbrev S_ : Shape := ⟨0, ![]⟩
abbrev S1x1 : Shape := ⟨2, ![1, 1]⟩
abbrev S1x128x4096 : Shape := ⟨3, ![1, 128, 4096]⟩
abbrev S128x4096 : Shape := ⟨2, ![128, 4096]⟩
abbrev S256x256 : Shape := ⟨2, ![256, 256]⟩
abbrev S1x256x256 : Shape := ⟨3, ![1, 256, 256]⟩
abbrev S1 : Shape := ⟨1, ![1]⟩
abbrev S1x1x1 : Shape := ⟨3, ![1, 1, 1]⟩
abbrev S128x256 : Shape := ⟨2, ![128, 256]⟩
abbrev S1x128x256 : Shape := ⟨3, ![1, 128, 256]⟩
abbrev S128 : Shape := ⟨1, ![128]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x256, .f32⟩
  | .local _ .vmem, ⟨0, _⟩ => ⟨S512x4096, .bf16⟩
  | .local _ .vmem, ⟨1, _⟩ => ⟨S4096x256, .bf16⟩
  | .local _ .vmem, ⟨2, _⟩ => ⟨S4096x256, .f32⟩
  | .local _ .vmem, ⟨3, _⟩ => ⟨S3x256x4096, .bf16⟩
  | .local _ .vmem, ⟨4, _⟩ => ⟨S3x256x4096, .bf16⟩
  | .local _ .vmem, ⟨5, _⟩ => ⟨S4096x256, .bf16⟩
  | .local _ .vmem, ⟨6, _⟩ => ⟨S1x128, .f32⟩
  | .local _ .vmem, ⟨7, _⟩ => ⟨S8x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch3 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_32 : BitVec 32 := 1#32
  let v42 : BitVec 32 := Scalar.muli v16 c1_i32_32
  let v43 : BitVec 32 := Scalar.addi c0_i32_33 v42
  v43.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_35 : BitVec 32 := 1#32
  let v44 : BitVec 32 := Scalar.muli v30 c1_i32_35
  let v45 : BitVec 32 := Scalar.addi c0_i32_36 v44
  v45.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_44 : BitVec 32 := 1#32
  let v46 : BitVec 32 := Scalar.muli v30 c1_i32_44
  let v47 : BitVec 32 := Scalar.addi c0_i32_45 v46
  v47.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_56 : BitVec 32 := 1#32
  let v56 : BitVec 32 := Scalar.muli v16 c1_i32_56
  let v57 : BitVec 32 := Scalar.addi c0_i32_57 v56
  v57.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_68 : BitVec 32 := 1#32
  let v66 : BitVec 32 := Scalar.muli v30 c1_i32_68
  let v67 : BitVec 32 := Scalar.addi c0_i32_69 v66
  v67.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_79 : BitVec 32 := 1#32
  let v76 : BitVec 32 := Scalar.muli v16 c1_i32_79
  let v77 : BitVec 32 := Scalar.addi c0_i32_80 v76
  v77.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v99 : BitVec 32 := Scalar.muli v2 c512_i32
  let v100 : Index := Scalar.indexCast v99
  let c0_100 : Index := 0#32
  ![v100.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_101 : BitVec 32 := 512#32
  let v102 : BitVec 32 := Scalar.muli v2 c512_i32_101
  let c256_i32 : BitVec 32 := 256#32
  let v103 : BitVec 32 := Scalar.addi v102 c256_i32
  let v104 : Index := Scalar.indexCast v103
  let c0_102 : Index := 0#32
  ![v104.toNat, 0]
def k0_dev7 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_209 : BitVec 32 := 1#32
  let v185 : BitVec 32 := Scalar.muli v30 c1_i32_209
  let v186 : BitVec 32 := Scalar.addi c0_i32_210 v185
  v186.toNat
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_221 : BitVec 32 := 1#32
  let v195 : BitVec 32 := Scalar.muli v16 c1_i32_221
  let v196 : BitVec 32 := Scalar.addi c0_i32_222 v195
  v196.toNat
def k0_dev9 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_257 : BitVec 32 := 1#32
  let v221 : BitVec 32 := Scalar.muli v30 c1_i32_257
  let v222 : BitVec 32 := Scalar.addi c0_i32_258 v221
  v222.toNat
def k0_dev10 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_269 : BitVec 32 := 1#32
  let v231 : BitVec 32 := Scalar.muli v16 c1_i32_269
  let v232 : BitVec 32 := Scalar.addi c0_i32_270 v231
  v232.toNat
def k0_off3 (d0 : Dev nD) (c3_i32_163 : BitVec 32) (c7_i32_161 : BitVec 32) (c6_i32_159 : BitVec 32) (c5_i32_157 : BitVec 32) (c2_i32_155 : BitVec 32) (c1_i32_153 : BitVec 32) (c0_i32_150 : BitVec 32) (c4_i32_151 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_162 : BitVec 32 := 7#32
  let v153 : BitVec 1 := Scalar.cmpi .eq v2 c7_i32_162
  let c6_i32_160 : BitVec 32 := 6#32
  let v151 : BitVec 1 := Scalar.cmpi .eq v2 c6_i32_160
  let c5_i32_158 : BitVec 32 := 5#32
  let v149 : BitVec 1 := Scalar.cmpi .eq v2 c5_i32_158
  let c4_i32_156 : BitVec 32 := 4#32
  let v147 : BitVec 1 := Scalar.cmpi .eq v2 c4_i32_156
  let c3_i32_154 : BitVec 32 := 3#32
  let v145 : BitVec 1 := Scalar.cmpi .eq v2 c3_i32_154
  let c2_i32_152 : BitVec 32 := 2#32
  let v143 : BitVec 1 := Scalar.cmpi .eq v2 c2_i32_152
  let c1_i32_149 : BitVec 32 := 1#32
  let v141 : BitVec 1 := Scalar.cmpi .eq v2 c1_i32_149
  let v142 : BitVec 32 := Scalar.select v141 c0_i32_150 c4_i32_151
  let v144 : BitVec 32 := Scalar.select v143 c1_i32_153 v142
  let v146 : BitVec 32 := Scalar.select v145 c2_i32_155 v144
  let v148 : BitVec 32 := Scalar.select v147 c5_i32_157 v146
  let v150 : BitVec 32 := Scalar.select v149 c6_i32_159 v148
  let v152 : BitVec 32 := Scalar.select v151 c7_i32_161 v150
  let v154 : BitVec 32 := Scalar.select v153 c3_i32_163 v152
  let c512_i32_286 : BitVec 32 := 512#32
  let v249 : BitVec 32 := Scalar.muli v154 c512_i32_286
  let v250 : Index := Scalar.indexCast v249
  let c0_287 : Index := 0#32
  ![v250.toNat, 0]
def k0_off3_at (r : Fin 6) : BitVec 32 × BitVec 32 × BitVec 32 × BitVec 32 × BitVec 32 × BitVec 32 × BitVec 32 × BitVec 32 :=
  if r.val < 3 then
    if r.val < 1 then
      (3#32, 7#32, 6#32, 5#32, 2#32, 1#32, 0#32, 4#32)
    else
      if r.val < 2 then
        (2#32, 3#32, 7#32, 6#32, 1#32, 0#32, 4#32, 5#32)
      else
        (1#32, 2#32, 3#32, 7#32, 0#32, 4#32, 5#32, 6#32)
  else
    if r.val < 4 then
      (0#32, 1#32, 2#32, 3#32, 4#32, 5#32, 6#32, 7#32)
    else
      if r.val < 5 then
        (4#32, 0#32, 1#32, 2#32, 5#32, 6#32, 7#32, 3#32)
      else
        (5#32, 4#32, 0#32, 1#32, 6#32, 7#32, 3#32, 2#32)
def k0_off4 (d0 : Dev nD) (c6_i32_178 : BitVec 32) (c5_i32_176 : BitVec 32) (c4_i32_174 : BitVec 32) (c0_i32_172 : BitVec 32) (c7_i32_170 : BitVec 32) (c3_i32_168 : BitVec 32) (c2_i32_165 : BitVec 32) (c1_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_177 : BitVec 32 := 7#32
  let v167 : BitVec 1 := Scalar.cmpi .eq v2 c7_i32_177
  let c6_i32_175 : BitVec 32 := 6#32
  let v165 : BitVec 1 := Scalar.cmpi .eq v2 c6_i32_175
  let c5_i32_173 : BitVec 32 := 5#32
  let v163 : BitVec 1 := Scalar.cmpi .eq v2 c5_i32_173
  let c4_i32_171 : BitVec 32 := 4#32
  let v161 : BitVec 1 := Scalar.cmpi .eq v2 c4_i32_171
  let c3_i32_169 : BitVec 32 := 3#32
  let v159 : BitVec 1 := Scalar.cmpi .eq v2 c3_i32_169
  let c2_i32_167 : BitVec 32 := 2#32
  let v157 : BitVec 1 := Scalar.cmpi .eq v2 c2_i32_167
  let c1_i32_164 : BitVec 32 := 1#32
  let v155 : BitVec 1 := Scalar.cmpi .eq v2 c1_i32_164
  let v156 : BitVec 32 := Scalar.select v155 c2_i32_165 c1_i32_166
  let v158 : BitVec 32 := Scalar.select v157 c3_i32_168 v156
  let v160 : BitVec 32 := Scalar.select v159 c7_i32_170 v158
  let v162 : BitVec 32 := Scalar.select v161 c0_i32_172 v160
  let v164 : BitVec 32 := Scalar.select v163 c4_i32_174 v162
  let v166 : BitVec 32 := Scalar.select v165 c5_i32_176 v164
  let v168 : BitVec 32 := Scalar.select v167 c6_i32_178 v166
  let c512_i32_288 : BitVec 32 := 512#32
  let v252 : BitVec 32 := Scalar.muli v168 c512_i32_288
  let c256_i32_289 : BitVec 32 := 256#32
  let v253 : BitVec 32 := Scalar.addi v252 c256_i32_289
  let v254 : Index := Scalar.indexCast v253
  let c0_290 : Index := 0#32
  ![v254.toNat, 0]
def k0_off4_at (r : Fin 6) : BitVec 32 × BitVec 32 × BitVec 32 × BitVec 32 × BitVec 32 × BitVec 32 × BitVec 32 × BitVec 32 :=
  if r.val < 3 then
    if r.val < 1 then
      (6#32, 5#32, 4#32, 0#32, 7#32, 3#32, 2#32, 1#32)
    else
      if r.val < 2 then
        (5#32, 4#32, 0#32, 1#32, 6#32, 7#32, 3#32, 2#32)
      else
        (4#32, 0#32, 1#32, 2#32, 5#32, 6#32, 7#32, 3#32)
  else
    if r.val < 4 then
      (0#32, 1#32, 2#32, 3#32, 4#32, 5#32, 6#32, 7#32)
    else
      if r.val < 5 then
        (1#32, 2#32, 3#32, 7#32, 0#32, 4#32, 5#32, 6#32)
      else
        (2#32, 3#32, 7#32, 6#32, 1#32, 0#32, 4#32, 5#32)
def k0_dev11 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_397 : BitVec 32 := 1#32
  let v336 : BitVec 32 := Scalar.muli v30 c1_i32_397
  let v337 : BitVec 32 := Scalar.addi c0_i32_398 v336
  v337.toNat
def k0_dev12 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_409 : BitVec 32 := 1#32
  let v346 : BitVec 32 := Scalar.muli v16 c1_i32_409
  let v347 : BitVec 32 := Scalar.addi c0_i32_410 v346
  v347.toNat
def k0_dev13 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_445 : BitVec 32 := 1#32
  let v372 : BitVec 32 := Scalar.muli v30 c1_i32_445
  let v373 : BitVec 32 := Scalar.addi c0_i32_446 v372
  v373.toNat
def k0_dev14 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_457 : BitVec 32 := 1#32
  let v382 : BitVec 32 := Scalar.muli v16 c1_i32_457
  let v383 : BitVec 32 := Scalar.addi c0_i32_458 v382
  v383.toNat
def k0_dev15 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_585 : BitVec 32 := 1#32
  let v487 : BitVec 32 := Scalar.muli v30 c1_i32_585
  let v488 : BitVec 32 := Scalar.addi c0_i32_586 v487
  v488.toNat
def k0_dev16 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_597 : BitVec 32 := 1#32
  let v497 : BitVec 32 := Scalar.muli v16 c1_i32_597
  let v498 : BitVec 32 := Scalar.addi c0_i32_598 v497
  v498.toNat
def k0_dev17 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_633 : BitVec 32 := 1#32
  let v523 : BitVec 32 := Scalar.muli v30 c1_i32_633
  let v524 : BitVec 32 := Scalar.addi c0_i32_634 v523
  v524.toNat
def k0_dev18 (d0 : Dev nD) : Nat :=
  let c0_i32_646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_645 : BitVec 32 := 1#32
  let v533 : BitVec 32 := Scalar.muli v16 c1_i32_645
  let v534 : BitVec 32 := Scalar.addi c0_i32_646 v533
  v534.toNat
def k0_dev19 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_774 : BitVec 32 := 1#32
  let v638 : BitVec 32 := Scalar.muli v30 c1_i32_774
  let v639 : BitVec 32 := Scalar.addi c0_i32_775 v638
  v639.toNat
def k0_dev20 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_786 : BitVec 32 := 1#32
  let v648 : BitVec 32 := Scalar.muli v16 c1_i32_786
  let v649 : BitVec 32 := Scalar.addi c0_i32_787 v648
  v649.toNat
def k0_dev21 (d0 : Dev nD) : Nat :=
  let c0_i32_823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_822 : BitVec 32 := 1#32
  let v674 : BitVec 32 := Scalar.muli v30 c1_i32_822
  let v675 : BitVec 32 := Scalar.addi c0_i32_823 v674
  v675.toNat
def k0_dev22 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_834 : BitVec 32 := 1#32
  let v684 : BitVec 32 := Scalar.muli v16 c1_i32_834
  let v685 : BitVec 32 := Scalar.addi c0_i32_835 v684
  v685.toNat
def k0_dev23 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_963 : BitVec 32 := 1#32
  let v789 : BitVec 32 := Scalar.muli v30 c1_i32_963
  let v790 : BitVec 32 := Scalar.addi c0_i32_964 v789
  v790.toNat
def k0_dev24 (d0 : Dev nD) : Nat :=
  let c0_i32_976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_975 : BitVec 32 := 1#32
  let v799 : BitVec 32 := Scalar.muli v16 c1_i32_975
  let v800 : BitVec 32 := Scalar.addi c0_i32_976 v799
  v800.toNat
def k0_dev25 (d0 : Dev nD) : Nat :=
  let c0_i32_1012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1011 : BitVec 32 := 1#32
  let v825 : BitVec 32 := Scalar.muli v30 c1_i32_1011
  let v826 : BitVec 32 := Scalar.addi c0_i32_1012 v825
  v826.toNat
def k0_dev26 (d0 : Dev nD) : Nat :=
  let c0_i32_1024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1023 : BitVec 32 := 1#32
  let v835 : BitVec 32 := Scalar.muli v16 c1_i32_1023
  let v836 : BitVec 32 := Scalar.addi c0_i32_1024 v835
  v836.toNat
def k0_dev27 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1152 : BitVec 32 := 1#32
  let v940 : BitVec 32 := Scalar.muli v30 c1_i32_1152
  let v941 : BitVec 32 := Scalar.addi c0_i32_1153 v940
  v941.toNat
def k0_dev28 (d0 : Dev nD) : Nat :=
  let c0_i32_1165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1164 : BitVec 32 := 1#32
  let v950 : BitVec 32 := Scalar.muli v16 c1_i32_1164
  let v951 : BitVec 32 := Scalar.addi c0_i32_1165 v950
  v951.toNat
def k0_dev29 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1200 : BitVec 32 := 1#32
  let v976 : BitVec 32 := Scalar.muli v30 c1_i32_1200
  let v977 : BitVec 32 := Scalar.addi c0_i32_1201 v976
  v977.toNat
def k0_dev30 (d0 : Dev nD) : Nat :=
  let c0_i32_1213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1212 : BitVec 32 := 1#32
  let v986 : BitVec 32 := Scalar.muli v16 c1_i32_1212
  let v987 : BitVec 32 := Scalar.addi c0_i32_1213 v986
  v987.toNat
def k0_off5 (d0 : Dev nD) (c0_i32_1342 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1294 : BitVec 32 := 7#32
  let v1059 : BitVec 1 := Scalar.cmpi .eq v2 c7_i32_1294
  let c6_i32_1295 : BitVec 32 := 6#32
  let c6_i32_1292 : BitVec 32 := 6#32
  let v1057 : BitVec 1 := Scalar.cmpi .eq v2 c6_i32_1292
  let c5_i32_1293 : BitVec 32 := 5#32
  let c5_i32_1290 : BitVec 32 := 5#32
  let v1055 : BitVec 1 := Scalar.cmpi .eq v2 c5_i32_1290
  let c4_i32_1291 : BitVec 32 := 4#32
  let c4_i32_1288 : BitVec 32 := 4#32
  let v1053 : BitVec 1 := Scalar.cmpi .eq v2 c4_i32_1288
  let c0_i32_1289 : BitVec 32 := 0#32
  let c3_i32_1286 : BitVec 32 := 3#32
  let v1051 : BitVec 1 := Scalar.cmpi .eq v2 c3_i32_1286
  let c7_i32_1287 : BitVec 32 := 7#32
  let c2_i32_1284 : BitVec 32 := 2#32
  let v1049 : BitVec 1 := Scalar.cmpi .eq v2 c2_i32_1284
  let c3_i32_1285 : BitVec 32 := 3#32
  let c1_i32_1281 : BitVec 32 := 1#32
  let v1047 : BitVec 1 := Scalar.cmpi .eq v2 c1_i32_1281
  let c2_i32_1282 : BitVec 32 := 2#32
  let c1_i32_1283 : BitVec 32 := 1#32
  let v1048 : BitVec 32 := Scalar.select v1047 c2_i32_1282 c1_i32_1283
  let v1050 : BitVec 32 := Scalar.select v1049 c3_i32_1285 v1048
  let v1052 : BitVec 32 := Scalar.select v1051 c7_i32_1287 v1050
  let v1054 : BitVec 32 := Scalar.select v1053 c0_i32_1289 v1052
  let v1056 : BitVec 32 := Scalar.select v1055 c4_i32_1291 v1054
  let v1058 : BitVec 32 := Scalar.select v1057 c5_i32_1293 v1056
  let v1060 : BitVec 32 := Scalar.select v1059 c6_i32_1295 v1058
  let c512_i32_1341 : BitVec 32 := 512#32
  let v1095 : BitVec 32 := Scalar.muli v1060 c512_i32_1341
  let v1096 : BitVec 32 := Scalar.addi v1095 c0_i32_1342
  let v1097 : Index := Scalar.indexCast v1096
  let c0_1343 : Index := 0#32
  ![v1097.toNat, 0]
def k0_off6 (d0 : Dev nD) (c0_i32_1353 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1309 : BitVec 32 := 7#32
  let v1073 : BitVec 1 := Scalar.cmpi .eq v2 c7_i32_1309
  let c3_i32_1310 : BitVec 32 := 3#32
  let c6_i32_1307 : BitVec 32 := 6#32
  let v1071 : BitVec 1 := Scalar.cmpi .eq v2 c6_i32_1307
  let c7_i32_1308 : BitVec 32 := 7#32
  let c5_i32_1305 : BitVec 32 := 5#32
  let v1069 : BitVec 1 := Scalar.cmpi .eq v2 c5_i32_1305
  let c6_i32_1306 : BitVec 32 := 6#32
  let c4_i32_1303 : BitVec 32 := 4#32
  let v1067 : BitVec 1 := Scalar.cmpi .eq v2 c4_i32_1303
  let c5_i32_1304 : BitVec 32 := 5#32
  let c3_i32_1301 : BitVec 32 := 3#32
  let v1065 : BitVec 1 := Scalar.cmpi .eq v2 c3_i32_1301
  let c2_i32_1302 : BitVec 32 := 2#32
  let c2_i32_1299 : BitVec 32 := 2#32
  let v1063 : BitVec 1 := Scalar.cmpi .eq v2 c2_i32_1299
  let c1_i32_1300 : BitVec 32 := 1#32
  let c1_i32_1296 : BitVec 32 := 1#32
  let v1061 : BitVec 1 := Scalar.cmpi .eq v2 c1_i32_1296
  let c0_i32_1297 : BitVec 32 := 0#32
  let c4_i32_1298 : BitVec 32 := 4#32
  let v1062 : BitVec 32 := Scalar.select v1061 c0_i32_1297 c4_i32_1298
  let v1064 : BitVec 32 := Scalar.select v1063 c1_i32_1300 v1062
  let v1066 : BitVec 32 := Scalar.select v1065 c2_i32_1302 v1064
  let v1068 : BitVec 32 := Scalar.select v1067 c5_i32_1304 v1066
  let v1070 : BitVec 32 := Scalar.select v1069 c6_i32_1306 v1068
  let v1072 : BitVec 32 := Scalar.select v1071 c7_i32_1308 v1070
  let v1074 : BitVec 32 := Scalar.select v1073 c3_i32_1310 v1072
  let c512_i32_1351 : BitVec 32 := 512#32
  let v1109 : BitVec 32 := Scalar.muli v1074 c512_i32_1351
  let c256_i32_1352 : BitVec 32 := 256#32
  let v1110 : BitVec 32 := Scalar.addi v1109 c256_i32_1352
  let v1111 : BitVec 32 := Scalar.addi v1110 c0_i32_1353
  let v1112 : Index := Scalar.indexCast v1111
  let c0_1354 : Index := 0#32
  ![v1112.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1170 : Index := Scalar.indexCast v2
  let c0_1404 : Index := 0#32
  ![v1170.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1411 : BitVec 32 := 0#32
  ![v2.toNat, 0]
def k0_dev31 (d0 : Dev nD) : Nat :=
  let c0_i32_1410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1405 : BitVec 32 := 1#32
  let v1174 : BitVec 32 := Scalar.addi v2 c1_i32_1405
  let c8_i32_1406 : BitVec 32 := 8#32
  let v1175 : BitVec 32 := Scalar.remsi v1174 c8_i32_1406
  let c1_i32_1409 : BitVec 32 := 1#32
  let v1176 : BitVec 32 := Scalar.muli v1175 c1_i32_1409
  let v1177 : BitVec 32 := Scalar.addi c0_i32_1410 v1176
  v1177.toNat
def k0_dev32 (d0 : Dev nD) : Nat :=
  let c0_i32_1417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1412 : BitVec 32 := 2#32
  let v1183 : BitVec 32 := Scalar.addi v2 c2_i32_1412
  let c8_i32_1413 : BitVec 32 := 8#32
  let v1184 : BitVec 32 := Scalar.remsi v1183 c8_i32_1413
  let c1_i32_1416 : BitVec 32 := 1#32
  let v1185 : BitVec 32 := Scalar.muli v1184 c1_i32_1416
  let v1186 : BitVec 32 := Scalar.addi c0_i32_1417 v1185
  v1186.toNat
def k0_dev33 (d0 : Dev nD) : Nat :=
  let c0_i32_1424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1419 : BitVec 32 := 3#32
  let v1192 : BitVec 32 := Scalar.addi v2 c3_i32_1419
  let c8_i32_1420 : BitVec 32 := 8#32
  let v1193 : BitVec 32 := Scalar.remsi v1192 c8_i32_1420
  let c1_i32_1423 : BitVec 32 := 1#32
  let v1194 : BitVec 32 := Scalar.muli v1193 c1_i32_1423
  let v1195 : BitVec 32 := Scalar.addi c0_i32_1424 v1194
  v1195.toNat
def k0_dev34 (d0 : Dev nD) : Nat :=
  let c0_i32_1431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1426 : BitVec 32 := 4#32
  let v1201 : BitVec 32 := Scalar.addi v2 c4_i32_1426
  let c8_i32_1427 : BitVec 32 := 8#32
  let v1202 : BitVec 32 := Scalar.remsi v1201 c8_i32_1427
  let c1_i32_1430 : BitVec 32 := 1#32
  let v1203 : BitVec 32 := Scalar.muli v1202 c1_i32_1430
  let v1204 : BitVec 32 := Scalar.addi c0_i32_1431 v1203
  v1204.toNat
def k0_dev35 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1433 : BitVec 32 := 5#32
  let v1210 : BitVec 32 := Scalar.addi v2 c5_i32_1433
  let c8_i32_1434 : BitVec 32 := 8#32
  let v1211 : BitVec 32 := Scalar.remsi v1210 c8_i32_1434
  let c1_i32_1437 : BitVec 32 := 1#32
  let v1212 : BitVec 32 := Scalar.muli v1211 c1_i32_1437
  let v1213 : BitVec 32 := Scalar.addi c0_i32_1438 v1212
  v1213.toNat
def k0_dev36 (d0 : Dev nD) : Nat :=
  let c0_i32_1445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1440 : BitVec 32 := 6#32
  let v1219 : BitVec 32 := Scalar.addi v2 c6_i32_1440
  let c8_i32_1441 : BitVec 32 := 8#32
  let v1220 : BitVec 32 := Scalar.remsi v1219 c8_i32_1441
  let c1_i32_1444 : BitVec 32 := 1#32
  let v1221 : BitVec 32 := Scalar.muli v1220 c1_i32_1444
  let v1222 : BitVec 32 := Scalar.addi c0_i32_1445 v1221
  v1222.toNat
def k0_dev37 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1447 : BitVec 32 := 7#32
  let v1228 : BitVec 32 := Scalar.addi v2 c7_i32_1447
  let c8_i32_1448 : BitVec 32 := 8#32
  let v1229 : BitVec 32 := Scalar.remsi v1228 c8_i32_1448
  let c1_i32_1451 : BitVec 32 := 1#32
  let v1230 : BitVec 32 := Scalar.muli v1229 c1_i32_1451
  let v1231 : BitVec 32 := Scalar.addi c0_i32_1452 v1230
  v1231.toNat
def k0_off9 (d0 : Dev nD) (c1_i32_1454 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1237 : BitVec 32 := Scalar.subi v2 c1_i32_1454
  let c8_i32_1455 : BitVec 32 := 8#32
  let v1238 : BitVec 32 := Scalar.addi v1237 c8_i32_1455
  let c8_i32_1456 : BitVec 32 := 8#32
  let v1239 : BitVec 32 := Scalar.remsi v1238 c8_i32_1456
  let c0_i32_1461 : BitVec 32 := 0#32
  ![v1239.toNat, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Prog.lean ====
/-
  The body of the kernel, written once over the hop: the two buffers of a direction under one name, the cells by
  number, and one iteration for all hops but the last. The printed body is this one (`body_eq`), by unfolding.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Ring

open Idealize.ShloMosaic Idealize.ShloMosaic.TcCoe Idealize.SL Idealize.SL.Sem
open Cert.KernelIdeal.Gen

variable {F : FTy → Type} [FloatOps F]

/-- The programs of the body. -/
abbrev P (F : FTy → Type) [FloatOps F] (α : Type) := Prog (TpuEff nD τ sig (Elt F) Λ₀ .tc) α

/-! ## The memory -/

/-- The ring buffer of a direction: clockwise, or the other way. -/
abbrev bufM : Bool → Memref sig .tc .vmem S3x256x4096 .bf16
  | true => Memref.whole cc0_scratch0
  | false => Memref.whole cc0_scratch3

theorem bufM_whole : ∀ D, (bufM D).IsWhole
  | true => Memref.isWhole_whole _
  | false => Memref.isWhole_whole _

theorem slot_inb : ∀ k : Fin 3, ∀ a, (![k.val, 0, 0] : Fin 3 → Nat) a + S1x256x4096.size a ≤ S3x256x4096.size a := by decide
theorem seg_inb : ∀ (k : Fin 3) (s : Fin 2), ∀ a, (![k.val, 128 * s.val, 0] : Fin 3 → Nat) a + S1x128x4096.size a ≤ S3x256x4096.size a := by decide

/-- One slot of a ring buffer, and one half of it. -/
abbrev slotR (k : Fin 3) : Rect S3x256x4096 := Rect.unit (s := S3x256x4096) ![k.val, 0, 0] S1x256x4096.size (slot_inb k)
abbrev segR (k : Fin 3) (s : Fin 2) : Rect S3x256x4096 := Rect.unit (s := S3x256x4096) ![k.val, 128 * s.val, 0] S1x128x4096.size (seg_inb k s)

theorem seg_words : ∀ (k : Fin 3) (s : Fin 2), (segR k s).WholeWords (EltTy.packing .bf16) := by decide

abbrev segM (D : Bool) (k : Fin 3) (s : Fin 2) : Memref sig .tc .vmem S128x4096 .bf16 :=
  ((bufM D).slice (segR k s) (fun _ => rfl)).squeeze S128x4096 squeezes_S1x128x4096_S128x4096

theorem segM_exact (D : Bool) (k : Fin 3) (s : Fin 2) : (segM D k s).view.WordExact :=
  ((bufM_whole D).wordExact_slice rfl _ (seg_words k s)).reshape _ _

abbrev xM : Memref sig .tc .vmem S512x4096 .bf16 := Memref.whole cc0_stg0_0
abbrev wM : Memref sig .tc .vmem S4096x256 .bf16 := Memref.whole cc0_stg1_0
abbrev oM : Memref sig .tc .vmem S4096x256 .f32 := Memref.whole cc0_stg2_0
abbrev wbM : Memref sig .tc .vmem S4096x256 .bf16 := Memref.whole cc0_scratch6
abbrev amM : Memref sig .tc .vmem S1x128 .f32 := Memref.whole cc0_scratch7
abbrev gaM : Memref sig .tc .vmem S8x128 .f32 := Memref.whole cc0_scratch8

abbrev rowR (c : Dev nD) : Rect S8x128 := Rect.unit (s := S8x128) (k0_off8 c) S1x128.size (k0_off8_inb c)
abbrev rowM (c : Dev nD) : Memref sig .tc .vmem S1x128 .f32 := gaM.slice (rowR c) (fun _ => rfl)
abbrev rowR' (c : Dev nD) (j : Fin 7) : Rect S8x128 := Rect.unit (s := S8x128) (k0_off9 c (BitVec.ofNat 32 (1 + j.val))) S1x128.size (k0_off9_inb c j)
abbrev rowM' (c : Dev nD) (j : Fin 7) : Memref sig .tc .vmem S1x128 .f32 := gaM.slice (rowR' c j) (fun _ => rfl)

/-! ## The cells -/

def sndSem (D : Bool) (k : Fin 3) (s : Fin 2) : DmaSem sig :=
  ⟨cond D 3 15 + (2 * k.val + s.val), by show _ < 41; cases D <;> simp only [cond] <;> omega⟩
def rcvSem (D : Bool) (k : Fin 3) (s : Fin 2) : DmaSem sig :=
  ⟨cond D 9 21 + (2 * k.val + s.val), by show _ < 41; cases D <;> simp only [cond] <;> omega⟩
def asndSem (j : Fin 7) : DmaSem sig := ⟨27 + j.val, by show _ < 41; omega⟩
def arcvSem (j : Fin 7) : DmaSem sig := ⟨34 + j.val, by show _ < 41; omega⟩
abbrev barS : Sem sig := (SemArray.scalar (sig.barrier 0 rfl) : Sems sig S_).sem

/-! ## The devices a copy is sent to -/

def sendDev : Fin 7 → Bool → Fin 2 → Dev nD → Dev nD
  | 0, true, 0, d => ⟨k0_dev3 d, k0_dev3_lt d⟩ | 0, false, 0, d => ⟨k0_dev4 d, k0_dev4_lt d⟩
  | 0, true, 1, d => ⟨k0_dev5 d, k0_dev5_lt d⟩ | 0, false, 1, d => ⟨k0_dev6 d, k0_dev6_lt d⟩
  | 1, true, 0, d => ⟨k0_dev7 d, k0_dev7_lt d⟩ | 1, false, 0, d => ⟨k0_dev8 d, k0_dev8_lt d⟩
  | 1, true, 1, d => ⟨k0_dev9 d, k0_dev9_lt d⟩ | 1, false, 1, d => ⟨k0_dev10 d, k0_dev10_lt d⟩
  | 2, true, 0, d => ⟨k0_dev11 d, k0_dev11_lt d⟩ | 2, false, 0, d => ⟨k0_dev12 d, k0_dev12_lt d⟩
  | 2, true, 1, d => ⟨k0_dev13 d, k0_dev13_lt d⟩ | 2, false, 1, d => ⟨k0_dev14 d, k0_dev14_lt d⟩
  | 3, true, 0, d => ⟨k0_dev15 d, k0_dev15_lt d⟩ | 3, false, 0, d => ⟨k0_dev16 d, k0_dev16_lt d⟩
  | 3, true, 1, d => ⟨k0_dev17 d, k0_dev17_lt d⟩ | 3, false, 1, d => ⟨k0_dev18 d, k0_dev18_lt d⟩
  | 4, true, 0, d => ⟨k0_dev19 d, k0_dev19_lt d⟩ | 4, false, 0, d => ⟨k0_dev20 d, k0_dev20_lt d⟩
  | 4, true, 1, d => ⟨k0_dev21 d, k0_dev21_lt d⟩ | 4, false, 1, d => ⟨k0_dev22 d, k0_dev22_lt d⟩
  | 5, true, 0, d => ⟨k0_dev23 d, k0_dev23_lt d⟩ | 5, false, 0, d => ⟨k0_dev24 d, k0_dev24_lt d⟩
  | 5, true, 1, d => ⟨k0_dev25 d, k0_dev25_lt d⟩ | 5, false, 1, d => ⟨k0_dev26 d, k0_dev26_lt d⟩
  | 6, true, 0, d => ⟨k0_dev27 d, k0_dev27_lt d⟩ | 6, false, 0, d => ⟨k0_dev28 d, k0_dev28_lt d⟩
  | 6, true, 1, d => ⟨k0_dev29 d, k0_dev29_lt d⟩ | 6, false, 1, d => ⟨k0_dev30 d, k0_dev30_lt d⟩

def asndDev : Fin 7 → Dev nD → Dev nD
  | 0, d => ⟨k0_dev31 d, k0_dev31_lt d⟩ | 1, d => ⟨k0_dev32 d, k0_dev32_lt d⟩ | 2, d => ⟨k0_dev33 d, k0_dev33_lt d⟩
  | 3, d => ⟨k0_dev34 d, k0_dev34_lt d⟩ | 4, d => ⟨k0_dev35 d, k0_dev35_lt d⟩ | 5, d => ⟨k0_dev36 d, k0_dev36_lt d⟩
  | 6, d => ⟨k0_dev37 d, k0_dev37_lt d⟩

/-! ## Where the results of a hop are stored -/

abbrev ownOff (D : Bool) (d : Dev nD) : Fin 2 → Nat := match D with | true => k0_off1 d | false => k0_off2 d
theorem ownOff_inb (D : Bool) (d : Dev nD) : ∀ a, ownOff D d a + S256x256.size a ≤ S4096x256.size a :=
  match D with | true => k0_off1_inb d | false => k0_off2_inb d
abbrev hopOff (D : Bool) (h : Fin 6) (d : Dev nD) : Fin 2 → Nat := match D with
  | true => k0_off3 d (k0_off3_at h).1 (k0_off3_at h).2.1 (k0_off3_at h).2.2.1 (k0_off3_at h).2.2.2.1 (k0_off3_at h).2.2.2.2.1 (k0_off3_at h).2.2.2.2.2.1 (k0_off3_at h).2.2.2.2.2.2.1 (k0_off3_at h).2.2.2.2.2.2.2
  | false => k0_off4 d (k0_off4_at h).1 (k0_off4_at h).2.1 (k0_off4_at h).2.2.1 (k0_off4_at h).2.2.2.1 (k0_off4_at h).2.2.2.2.1 (k0_off4_at h).2.2.2.2.2.1 (k0_off4_at h).2.2.2.2.2.2.1 (k0_off4_at h).2.2.2.2.2.2.2
theorem hopOff_inb (D : Bool) (h : Fin 6) (d : Dev nD) : ∀ a, hopOff D h d a + S256x256.size a ≤ S4096x256.size a :=
  match D with | true => k0_off3_inb d h | false => k0_off4_inb d h
abbrev lastOff (D : Bool) (s : Fin 2) (d : Dev nD) : Fin 2 → Nat := match D with
  | true => k0_off5 d (BitVec.ofNat 32 (128 * s.val)) | false => k0_off6 d (BitVec.ofNat 32 (128 * s.val))
theorem lastOff_inb (D : Bool) (s : Fin 2) (d : Dev nD) : ∀ a, lastOff D s d a + S128x256.size a ≤ S4096x256.size a :=
  match D with | true => k0_off5_inb d s | false => k0_off6_inb d s

abbrev ownR (D : Bool) (d : Dev nD) : Rect S4096x256 := Rect.unit (s := S4096x256) (ownOff D d) S256x256.size (ownOff_inb D d)
abbrev hopR (D : Bool) (h : Fin 6) (d : Dev nD) : Rect S4096x256 := Rect.unit (s := S4096x256) (hopOff D h d) S256x256.size (hopOff_inb D h d)
abbrev lastR (D : Bool) (s : Fin 2) (d : Dev nD) : Rect S4096x256 := Rect.unit (s := S4096x256) (lastOff D s d) S128x256.size (lastOff_inb D s d)

/-! ## The operations -/

/-- The slot hop `h` sends from, and the one it lands in. -/
abbrev sl (h : Nat) : Fin 3 := ⟨h % 3, Nat.mod_lt _ (by decide)⟩

def ldSlot (D : Bool) (k : Fin 3) : P F (Vec F S1x256x4096 .bf16) :=
  Prog.lift (.load (bufM D) (slotR k).toLoadRect (View.loadsAt_vmem h_S1x256x4096))
def ldSeg (D : Bool) (k : Fin 3) (s : Fin 2) : P F (Vec F S1x128x4096 .bf16) :=
  Prog.lift (.load (bufM D) (segR k s).toLoadRect (View.loadsAt_vmem h_S1x128x4096))
abbrev wR : Rect S4096x256 := Rect.unit (s := S4096x256) ![0, 0] S4096x256.size inb_S4096x256_S4096x256_0_0
def ldWb : P F (Vec F S4096x256 .bf16) :=
  Prog.lift (.load wbM wR.toLoadRect (View.loadsAt_vmem h_S4096x256))
def sendOp (h : Fin 7) (D : Bool) (s : Fin 2) (d : Dev nD) : P F PUnit :=
  Prog.lift (.enqueueDma (segM D (sl h.val) s) (.remote (Dev.tc (sendDev h D s d)) (segM D (sl (h.val + 1)) s) (.dma (sndSem D (sl h.val) s)))
    (.dma (rcvSem D (sl (h.val + 1)) s)) (segM_exact D _ s) (segM_exact D _ s) ⟨⟨rfl, Or.inl rfl⟩, trivial⟩)
def wSend (h : Fin 7) (D : Bool) (s : Fin 2) : P F PUnit :=
  Prog.lift (.waitDma2 (sndSem D (sl h.val) s) (segM D (sl (h.val + 1)) s) (segM D (sl h.val) s) (segM_exact D _ s) (segM_exact D _ s))
def wRecv (h : Fin 7) (D : Bool) (s : Fin 2) : P F PUnit :=
  Prog.lift (.waitDma2 (rcvSem D (sl (h.val + 1)) s) (segM D (sl h.val) s) (segM D (sl (h.val + 1)) s) (segM_exact D _ s) (segM_exact D _ s))
def asnd (j : Fin 7) (d : Dev nD) : P F PUnit :=
  Prog.lift (.enqueueDma amM (.remote (Dev.tc (asndDev j d)) (rowM d) (.dma (asndSem j))) (.dma (arcvSem j))
    (Memref.isWhole_whole _).wordExact (View.wordExact_bits rfl) ⟨⟨rfl, Or.inl rfl⟩, trivial⟩)
def wARecv (j : Fin 7) (d : Dev nD) : P F PUnit :=
  Prog.lift (.waitDma2 (arcvSem j) amM (rowM' d j) (Memref.isWhole_whole _).wordExact (View.wordExact_bits rfl))
def wASend (j : Fin 7) (d : Dev nD) : P F PUnit :=
  Prog.lift (.waitDma2 (asndSem j) (rowM d) amM (View.wordExact_bits rfl) (Memref.isWhole_whole _).wordExact)

def stOwn (D : Bool) (d : Dev nD) (v : FVec F S256x256 .f32) : P F PUnit := do
  let _ ← Prog.lift (.load oM (ownR D d).toLoadRect (View.loadsAt_vmem h_S256x256))
  Prog.lift (.store oM (ownR D d) v Finset.univ (View.stores_vmem_bits_univ h_S256x256 rfl) (.inl rfl))
def stHop (D : Bool) (h : Fin 6) (d : Dev nD) (v : FVec F S256x256 .f32) : P F PUnit := do
  let _ ← Prog.lift (.load oM (hopR D h d).toLoadRect (View.loadsAt_vmem h_S256x256))
  Prog.lift (.store oM (hopR D h d) v Finset.univ (View.stores_vmem_bits_univ h_S256x256 rfl) (.inl rfl))
def stLast (D : Bool) (s : Fin 2) (d : Dev nD) (v : FVec F S128x256 .f32) : P F PUnit := do
  let _ ← Prog.lift (.load oM (lastR D s d).toLoadRect (View.loadsAt_vmem h_S128x256))
  Prog.lift (.store oM (lastR D s d) v Finset.univ (View.stores_vmem_bits_univ h_S128x256 rfl) (.inl rfl))

theorem xh_inb : ∀ D : Bool, ∀ a, (![cond D 0 256, 0] : Fin 2 → Nat) a + S256x4096.size a ≤ S512x4096.size a := by decide
abbrev xhR (D : Bool) : Rect S512x4096 := Rect.unit (s := S512x4096) ![cond D 0 256, 0] S256x4096.size (xh_inb D)

/-- Half of the device's own rows of `x`, stored into slot 0 of a direction's buffer. -/
def fill (D : Bool) : P F PUnit := do
  let v ← Prog.lift (.load xM (xhR D).toLoadRect (View.loadsAt_vmem h_S256x4096))
  let _ ← Prog.lift (.load (bufM D) (slotR 0).toLoadRect (View.loadsAt_vmem h_S1x256x4096))
  Prog.lift (.store (bufM D) (slotR 0) (k0_pay2 v) Finset.univ
    (View.stores_vmem h_S1x256x4096 ((bufM_whole D).storeExact_slice rfl _ packedbf16_S3x256x4096_S1x256x4096_0_0_0) (fun _ => rfl)) (.inl rfl))

def sigPrev (d : Dev nD) : P F PUnit := semSignalWord (⟨k0_dev1 d, k0_dev1_lt d⟩ : Dev nD) barS 1#32
def sigNext (d : Dev nD) : P F PUnit := semSignalWord (⟨k0_dev2 d, k0_dev2_lt d⟩ : Dev nD) barS 1#32
def wBar : P F PUnit := semWaitWord barS 2#32

def copyW : P F PUnit := do
  let v ← Prog.lift (.load wM wR.toLoadRect (View.loadsAt_vmem h_S4096x256))
  let _ ← Prog.lift (.load wbM wR.toLoadRect (View.loadsAt_vmem h_S4096x256))
  Prog.lift (.store wbM wR (k0_pay4 v) Finset.univ
    (View.stores_vmem h_S4096x256 ((Memref.isWhole_whole cc0_scratch6).storeExact_slice rfl _ packedbf16_S4096x256_S4096x256_0_0) (fun _ => rfl)) (.inl rfl))

/-- All four copies of a hop, and the waits for their sources. -/
def sends0 (d : Dev nD) : P F PUnit := do
  sendOp 0 true 0 d; sendOp 0 false 0 d; sendOp 0 true 1 d; sendOp 0 false 1 d
def wSends (h : Fin 7) : P F PUnit := do
  wSend h true 0; wSend h false 0; wSend h true 1; wSend h false 1
def turn (h : Fin 6) (s : Fin 2) (d : Dev nD) : P F PUnit := do
  wRecv h.castSucc true s; wRecv h.castSucc false s
  sendOp h.succ true s d; sendOp h.succ false s d

/-- The own block. -/
def own (d : Dev nD) : P F (F .f32) := do
  let a ← ldSlot true 0
  let w ← ldWb
  let b ← ldSlot false 0
  let w' ← ldWb
  stOwn true d (k0_pay5 a w)
  stOwn false d (k0_pay6 b w')
  pure (k0_pay8 (k0_pay6 b w') (k0_pay7 a w))

/-- The blocks hop `h` brought. -/
def dots (h : Fin 6) (d : Dev nD) (m : F .f32) : P F (F .f32) := do
  let a ← ldSlot true (sl (h.val + 1))
  let w ← ldWb
  let b ← ldSlot false (sl (h.val + 1))
  let w' ← ldWb
  stHop true h d (k0_pay14 a w)
  stHop false h d (k0_pay15 b w')
  pure (k0_pay16 m a w b w')

def iter (h : Fin 6) (d : Dev nD) (m : F .f32) : P F (F .f32) := do
  wSends h.castSucc
  turn h 0 d
  turn h 1 d
  dots h d m

/-- One half of one of the last blocks. -/
def lastDot (D : Bool) (s : Fin 2) (d : Dev nD) (m : F .f32) : P F (F .f32) := do
  let a ← ldSeg D 1 s
  let w ← ldWb
  stLast D s d (k0_pay30 a w)
  pure (k0_pay31 m a w)

def lastHop (d : Dev nD) (m : F .f32) : P F (F .f32) := do
  wSends 6
  wRecv 6 true 0; wRecv 6 false 0
  let m ← lastDot true 0 d m
  let m ← lastDot false 0 d m
  wRecv 6 true 1; wRecv 6 false 1
  let m ← lastDot true 1 d m
  lastDot false 1 d m

abbrev amR : Rect S1x128 := Rect.unit (s := S1x128) ![0, 0] S1x128.size inb_S1x128_S1x128_0_0
abbrev gaR : Rect S8x128 := Rect.unit (s := S8x128) ![0, 0] S8x128.size inb_S8x128_S8x128_0_0

/-- The device's maximum into its own row of the gathered maxima. -/
def putMax (d : Dev nD) (m : F .f32) : P F PUnit := do
  let _ ← Prog.lift (.load amM amR.toLoadRect (View.loadsAt_vmem h_S1x128))
  Prog.lift (.store amM amR (shapeCast S1x128 (broadcast S128 m) shapeCasts_S128_S1x128) Finset.univ (View.stores_vmem_bits_univ h_S1x128 rfl) (.inl rfl))
  let v ← Prog.lift (.load amM amR.toLoadRect (View.loadsAt_vmem h_S1x128))
  let _ ← Prog.lift (.load gaM (Rect.unit (s := S8x128) (k0_off7 d) S1x128.size (k0_off7_inb d)).toLoadRect (View.loadsAt_vmem h_S1x128))
  Prog.lift (.store gaM (Rect.unit (s := S8x128) (k0_off7 d) S1x128.size (k0_off7_inb d)) (k0_pay38 v) Finset.univ (View.stores_vmem_bits_univ h_S1x128 rfl) (.inl rfl))

def gather (d : Dev nD) : P F PUnit := do
  asnd 0 d; asnd 1 d; asnd 2 d; asnd 3 d; asnd 4 d; asnd 5 d; asnd 6 d
  wARecv 0 d; wARecv 1 d; wARecv 2 d; wARecv 3 d; wARecv 4 d; wARecv 5 d; wARecv 6 d
  wASend 0 d; wASend 1 d; wASend 2 d; wASend 3 d; wASend 4 d; wASend 5 d; wASend 6 d

def finish : P F PUnit := do
  let g ← Prog.lift (.load gaM gaR.toLoadRect (View.loadsAt_vmem h_S8x128))
  let y ← Prog.lift (.load oM wR.toLoadRect (View.loadsAt_vmem h_S4096x256))
  let _ ← Prog.lift (.load oM wR.toLoadRect (View.loadsAt_vmem h_S4096x256))
  Prog.lift (.store oM wR (k0_pay1 (k0_pay39 g) y) Finset.univ (View.stores_vmem_bits_univ h_S4096x256 rfl) (.inl rfl))

/-- The whole body. -/
def body : P F PUnit := do
  let d ← Prog.lift .deviceId
  fill true; fill false
  sigPrev d; sigNext d; wBar
  sends0 d
  copyW
  let m ← own d
  let m ← iter 0 d m
  let m ← iter 1 d m
  let m ← iter 2 d m
  let m ← iter 3 d m
  let m ← iter 4 d m
  let m ← iter 5 d m
  let m ← lastHop d m
  putMax d m
  gather d
  finish

set_option maxRecDepth 65536 in
theorem body_eq (t : Fin cfg0.N) : bodyAt0 (F := F) t = body (F := F) := by
  rw [fin_N0 t]
  chain_rfl

end Cert.KernelIdeal.Ring
-- ==== Proof.Ring.lean ====
/-
  The ring of devices: the neighbours in a direction, the devices the printed copies name, whose rows a hop brings,
  and the list of everything a device pays into another device's cells, in program order.
-/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.KernelIdeal.Ring

open Idealize.ShloMosaic Idealize.ShloMosaic.TcCoe Idealize.SL Idealize.SL.Sem
open Cert.KernelIdeal.Gen

/-! ## Neighbours -/

/-- The device a copy of direction `D` goes to. -/
def nxt : Bool → Dev nD → Dev nD
  | true, d => (![1, 2, 3, 7, 0, 4, 5, 6] : Fin 8 → Fin 8) d
  | false, d => (![4, 0, 1, 2, 5, 6, 7, 3] : Fin 8 → Fin 8) d
/-- The device a copy of direction `D` comes from. -/
abbrev fr (D : Bool) (d : Dev nD) : Dev nD := nxt (!D) d

theorem to_fr : ∀ (D : Bool) (d : Dev nD), nxt D (nxt (!D) d) = d := by decide
theorem fr_to : ∀ (D : Bool) (d : Dev nD), nxt (!D) (nxt D d) = d := by decide

theorem dev1_eq : ∀ d : Dev nD, (⟨k0_dev1 d, k0_dev1_lt d⟩ : Dev nD) = nxt false d := by decide +kernel
theorem dev2_eq : ∀ d : Dev nD, (⟨k0_dev2 d, k0_dev2_lt d⟩ : Dev nD) = nxt true d := by decide +kernel
theorem sendDev_eq : ∀ (h : Fin 7) (D : Bool) (s : Fin 2) (d : Dev nD), sendDev h D s d = nxt D d := by decide +kernel

/-- The device `1 + j` further on in the numbering. -/
def fwd (j : Fin 7) (d : Dev nD) : Dev nD := ⟨(d.val + 1 + j.val) % 8, Nat.mod_lt _ (by decide)⟩
def bwd (j : Fin 7) (d : Dev nD) : Dev nD := ⟨(d.val + 7 - j.val) % 8, Nat.mod_lt _ (by decide)⟩
theorem fwd_bwd : ∀ (j : Fin 7) (d : Dev nD), fwd j (bwd j d) = d := by decide
theorem bwd_fwd : ∀ (j : Fin 7) (d : Dev nD), bwd j (fwd j d) = d := by decide
theorem asndDev_eq : ∀ (j : Fin 7) (d : Dev nD), asndDev j d = fwd j d := by decide +kernel

/-- Whose rows device `c` holds after `n` hops of direction `D`. -/
def orig (D : Bool) : ℕ → Dev nD → Dev nD
  | 0, c => c
  | n + 1, c => fr D (orig D n c)
/-- The device `n` hops on from `c`. -/
def dest : ℕ → Dev nD → Dev nD
  | 0, c => c
  | n + 1, c => nxt true (dest n c)

theorem orig_zero (D : Bool) (c : Dev nD) : orig D 0 c = c := rfl
theorem orig_succ' (D : Bool) (n : ℕ) (c : Dev nD) : orig D (n + 1) c = orig D n (fr D c) := by
  induction n with
  | zero => rfl
  | succ n ih => rw [orig, ih, orig]
theorem orig_to (D : Bool) (n : ℕ) (c : Dev nD) : orig D (n + 1) (nxt D c) = orig D n c := by
  rw [orig_succ', fr, fr_to]
theorem dest_orig (n : ℕ) (c : Dev nD) : dest n (orig true n c) = c := by
  induction n with
  | zero => rfl
  | succ n ih =>
    rw [dest, orig, show dest n (fr true (orig true n c)) = fr true (dest n (orig true n c)) from ?_, ih]
    · exact to_fr true c
    generalize orig true n c = e
    clear ih
    induction n generalizing e with
    | zero => rfl
    | succ n ih => rw [dest, dest, ih]; exact (to_fr true _).trans (fr_to true _).symm

/-! ## The offsets of the results -/

theorem ownOff_eq : ∀ (D : Bool) (d : Dev nD), ownOff D d = ![512 * d.val + cond D 0 256, 0] := by decide +kernel
theorem hopOff_eq : ∀ (D : Bool) (h : Fin 6) (d : Dev nD), hopOff D h d = ![512 * (orig D (h.val + 1) d).val + cond D 0 256, 0] := by decide +kernel
theorem lastOff_eq : ∀ (D : Bool) (s : Fin 2) (d : Dev nD), lastOff D s d = ![512 * (orig D 7 d).val + cond D 0 256 + 128 * s.val, 0] := by decide +kernel
theorem off7_eq : ∀ d : Dev nD, k0_off7 d = ![d.val, 0] := by decide +kernel
theorem off8_eq : ∀ d : Dev nD, k0_off8 d = ![d.val, 0] := by decide +kernel
theorem off9_eq : ∀ (d : Dev nD) (j : Fin 7), k0_off9 d (BitVec.ofNat 32 (1 + j.val)) = ![(bwd j d).val, 0] := by decide +kernel

/-! ## What a device pays to others -/

/-- One payment: a barrier signal, a copy of a hop, a copy of the maximum. -/
inductive Pay where
  | bar (D : Bool)
  | hop (h : Fin 7) (D : Bool) (s : Fin 2)
  | am (j : Fin 7)
  deriving DecidableEq

/-- The device paid. -/
def Pay.tgt : Pay → Dev nD → Dev nD
  | .bar D, c => nxt D c
  | .hop _ D _, c => nxt D c
  | .am j, c => fwd j c
def Pay.src : Pay → Dev nD → Dev nD
  | .bar D, c => nxt (!D) c
  | .hop _ D _, c => nxt (!D) c
  | .am j, c => bwd j c
theorem Pay.tgt_src : ∀ (p : Pay) (c : Dev nD), p.tgt (p.src c) = c
  | .bar D, c => to_fr D c | .hop _ D _, c => to_fr D c | .am j, c => fwd_bwd j c
theorem Pay.src_tgt : ∀ (p : Pay) (c : Dev nD), p.src (p.tgt c) = c
  | .bar D, c => fr_to D c | .hop _ D _, c => fr_to D c | .am j, c => bwd_fwd j c
def Pay.ring (p : Pay) : Dev nD ≃ Dev nD := ⟨p.tgt, p.src, p.src_tgt, p.tgt_src⟩

/-- The cell paid, the payer's own cell of the copy, and the round of both. -/
def Pay.sem : Pay → SemLoc sig
  | .bar _ => .reg barS
  | .hop h D s => .dma (rcvSem D (sl (h.val + 1)) s)
  | .am j => .dma (arcvSem j)
def Pay.ssem : Pay → SemLoc sig
  | .bar _ => .dma ⟨0, by decide⟩
  | .hop h D s => .dma (sndSem D (sl h.val) s)
  | .am j => .dma (asndSem j)
def Pay.rd : Pay → ℕ
  | .bar _ => 0
  | .hop h _ _ => h.val / 3
  | .am _ => 0
def Pay.du : Pay → Bool
  | .bar D => D
  | .hop _ _ _ => false
  | .am _ => false
/-- The index the payment is owed at, and how high it stands. -/
def Pay.ix : Pay → ℕ
  | .bar _ => 0
  | .hop h _ _ => h.val + 1
  | .am _ => 0
def Pay.lev : Pay → ℕ
  | .bar _ => 1
  | .hop h _ _ => h.val + 2
  | .am _ => 20

abbrev NS : ℕ := (segM true 0 0).view.dmaCredit
abbrev NA : ℕ := amM.view.dmaCredit
theorem NS_pos : 0 < NS := View.dmaCredit_pos _ (by decide)
theorem NA_pos : 0 < NA := View.dmaCredit_pos _ (by decide)

def Pay.amt : Pay → ℕ
  | .bar _ => 1
  | .hop _ _ _ => NS
  | .am _ => NA

/-- The payments of hop `h`, and everything from hop `h` on. -/
def hop4 (h : Fin 7) : List Pay := [.hop h true 0, .hop h false 0, .hop h true 1, .hop h false 1]
def ams : List Pay := [.am 0, .am 1, .am 2, .am 3, .am 4, .am 5, .am 6]
def rest (h : ℕ) : List Pay := ((List.finRange 7).drop h).flatMap hop4 ++ ams
def allPays : List Pay := .bar false :: .bar true :: rest 0

theorem rest_cons : ∀ h : Fin 7, rest h.val = .hop h true 0 :: .hop h false 0 :: .hop h true 1 :: .hop h false 1 :: rest (h.val + 1) := by decide
theorem rest_seven : rest 7 = ams := by decide
theorem mem_allPays : ∀ p : Pay, p ∈ allPays
  | .bar D => by revert D; decide
  | .hop h D s => by revert h D s; decide
  | .am j => by revert j; decide
instance : Fintype Pay := ⟨allPays.toFinset, fun p => List.mem_toFinset.mpr (mem_allPays p)⟩
theorem allPays_univ : (Finset.univ : Finset Pay) = allPays.toFinset := rfl
theorem allPays_nodup : allPays.Nodup := by decide
theorem rest_lev : ∀ h : Fin 8, ∀ p ∈ rest h.val, h.val + 1 < p.lev := by decide

end Cert.KernelIdeal.Ring
-- ==== Proof.Vals.lean ====
/-
  What the buffers hold, as functions of the launch memory: a device's rows of `x` as they travel, its columns of the
  product block by block in the order they are stored, the running maximum, the scaled result.
-/
module

public import proofs.«01_k».proof.Proof.Ring

@[expose] public section

noncomputable section

namespace Cert.KernelIdeal.Ring

open Idealize.ShloMosaic Idealize.ShloMosaic.TcCoe Idealize.SL Idealize.SL.Sem
open Cert.KernelIdeal.Gen

variable {F : FTy → Type} [FloatOps F]
variable (m : (ℓ : Loc nD τ sig) → Buf (Elt F) ℓ)

/-- The staged arguments of device `c`. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The half of device `o`'s rows that travels in direction `D`, and its two segments. -/
def slotX (D : Bool) (o : Dev nD) : Vec F S1x256x4096 .bf16 :=
  k0_pay2 (xM.view.readAt (Elt F) (xhR D).toLoadRect (xstg m o))
theorem half_inb : ∀ (s : Fin 2), ∀ a, (![0, 128 * s.val, 0] : Fin 3 → Nat) a + S1x128x4096.size a ≤ S1x256x4096.size a := by decide
abbrev halfR (s : Fin 2) : Rect S1x256x4096 := Rect.unit (s := S1x256x4096) ![0, 128 * s.val, 0] S1x128x4096.size (half_inb s)
abbrev sq : S128x4096.Idx ≃ S1x128x4096.Idx := Shape.reshapeEquiv squeezes_S1x128x4096_S128x4096.numel_eq
def segX (D : Bool) (o : Dev nD) (s : Fin 2) : Vec F S128x4096 .bf16 := fun i => slotX m D o ((halfR s).emb (sq i))
/-- A segment as loaded. -/
def segL (D : Bool) (o : Dev nD) (s : Fin 2) : Vec F S1x128x4096 .bf16 := fun i => slotX m D o ((halfR s).emb i)

def wX (c : Dev nD) : Vec F S4096x256 .bf16 := k0_pay4 (wstg m c)

/-! ## The result, store by store -/

/-- One store into the result: where, and what. -/
abbrev Wr (F : FTy → Type) := (r : Rect S4096x256) × Vec F r.shape .f32
abbrev OC (F : FTy → Type) [FloatOps F] := (cc0_stg2_0 : Ref sig .tc).ty.Contents (Elt F)
def ap (f : OC F) (w : Wr F) : OC F := (oM.access w.1 : View sig .tc _ _ _).write (Elt F) f w.2 Finset.univ
def stage (l : List (Wr F)) (f : OC F) : OC F := l.foldl ap f
theorem stage_append (l : List (Wr F)) (w : Wr F) (f : OC F) : stage (l ++ [w]) f = ap (stage l f) w := by
  unfold stage; rw [List.foldl_append]; rfl

def ownW (D : Bool) (c : Dev nD) : Wr F := ⟨ownR D c, match D with
  | true => k0_pay5 (slotX m true c) (wX m c) | false => k0_pay6 (slotX m false c) (wX m c)⟩
def hopW (D : Bool) (h : Fin 6) (c : Dev nD) : Wr F := ⟨hopR D h c, match D with
  | true => k0_pay14 (slotX m true (orig true (h.val + 1) c)) (wX m c)
  | false => k0_pay15 (slotX m false (orig false (h.val + 1) c)) (wX m c)⟩
def lastW (D : Bool) (s : Fin 2) (c : Dev nD) : Wr F := ⟨lastR D s c, k0_pay30 (segL m D (orig D 7 c) s) (wX m c)⟩

/-- The stores up to hop `n`. -/
def wl (c : Dev nD) : ℕ → List (Wr F)
  | 0 => [ownW m true c, ownW m false c]
  | n + 1 => if h : n < 6 then wl c n ++ [hopW m true ⟨n, h⟩ c] ++ [hopW m false ⟨n, h⟩ c] else wl c n
theorem wl_succ (c : Dev nD) (h : Fin 6) : wl m c (h.val + 1) = wl m c h.val ++ [hopW m true h c] ++ [hopW m false h c] := dif_pos h.isLt
/-- All of them. -/
def wlEnd (c : Dev nD) : List (Wr F) :=
  wl m c 6 ++ [lastW m true 0 c] ++ [lastW m false 0 c] ++ [lastW m true 1 c] ++ [lastW m false 1 c]
/-- The columns of the product device `c` computes. -/
def yv (c : Dev nD) : OC F := stage (wlEnd m c) (fun _ => Scalar.ofBits .f32 0#32)

/-- The running maximum. -/
def mv (c : Dev nD) : ℕ → F .f32
  | 0 => k0_pay8 (k0_pay6 (slotX m false c) (wX m c)) (k0_pay7 (slotX m true c) (wX m c))
  | n + 1 => k0_pay16 (mv c n) (slotX m true (orig true (n + 1) c)) (wX m c) (slotX m false (orig false (n + 1) c)) (wX m c)
def mvl (c : Dev nD) (x : F .f32) (D : Bool) (s : Fin 2) : F .f32 := k0_pay31 x (segL m D (orig D 7 c) s) (wX m c)
def mvEnd (c : Dev nD) : F .f32 := mvl m c (mvl m c (mvl m c (mvl m c (mv m c 6) true 0) false 0) true 1) false 1

/-- The row a device sends its maximum in. -/
def amX (c : Dev nD) : Vec F S1x128 .f32 := shapeCast S1x128 (broadcast S128 (mvEnd m c)) shapeCasts_S128_S1x128
theorem rowOf_inb : ∀ (d : Dev nD) (a : Fin 2), (![d.val, 0] : Fin 2 → Nat) a + S1x128.size a ≤ S8x128.size a := by decide
/-- All the maxima. -/
def gaX : Vec F S8x128 .f32 := fun i => amX m ⟨(i 0).val, (i 0).isLt⟩ (fun | ⟨0, _⟩ => ⟨0, Nat.one_pos⟩ | ⟨1, _⟩ => i 1 | ⟨_ + 2, h⟩ => absurd h (Nat.not_lt.2 (Nat.le_add_left _ _)))

/-- The result of device `c`. -/
def outAt (c : Dev nD) : OC F := k0_pay1 (k0_pay39 (gaX m)) (yv m c)

end Cert.KernelIdeal.Ring
-- ==== Proof.Sched.lean ====
/-
  The cells of the ring and their rounds: which copies each cell counts, in which round, and what each hands over.
-/
module

public import proofs.«01_k».proof.Proof.Vals
public import Idealize.ShloMosaic.Lib.MemrefSat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The cells -/

abbrev barC (c : Dev nD) : GSem nD τ sig := ((c : Thread nD τ), .reg barS)
abbrev dmaC (c : Dev nD) (q : DmaSem sig) : GSem nD τ sig := ((c : Thread nD τ), .dma q)

/-- What a DMA semaphore of the kernel counts. -/
inductive Cid where
  | stg
  | snd (D : Bool) (k : Fin 3) (s : Fin 2)
  | rcv (D : Bool) (k : Fin 3) (s : Fin 2)
  | asnd (j : Fin 7)
  | arcv (j : Fin 7)
  deriving DecidableEq

def cid (q : DmaSem sig) : Cid :=
  if q.val < 3 then .stg
  else if q.val < 9 then .snd true ⟨(q.val - 3) / 2 % 3, Nat.mod_lt _ (by decide)⟩ ⟨(q.val - 3) % 2, Nat.mod_lt _ (by decide)⟩
  else if q.val < 15 then .rcv true ⟨(q.val - 9) / 2 % 3, Nat.mod_lt _ (by decide)⟩ ⟨(q.val - 9) % 2, Nat.mod_lt _ (by decide)⟩
  else if q.val < 21 then .snd false ⟨(q.val - 15) / 2 % 3, Nat.mod_lt _ (by decide)⟩ ⟨(q.val - 15) % 2, Nat.mod_lt _ (by decide)⟩
  else if q.val < 27 then .rcv false ⟨(q.val - 21) / 2 % 3, Nat.mod_lt _ (by decide)⟩ ⟨(q.val - 21) % 2, Nat.mod_lt _ (by decide)⟩
  else if q.val < 34 then .asnd ⟨(q.val - 27) % 7, Nat.mod_lt _ (by decide)⟩
  else .arcv ⟨(q.val - 34) % 7, Nat.mod_lt _ (by decide)⟩

theorem cid_snd : ∀ D k s, cid (sndSem D k s) = .snd D k s := by decide
theorem cid_rcv : ∀ D k s, cid (rcvSem D k s) = .rcv D k s := by decide
theorem cid_asnd : ∀ j, cid (asndSem j) = .asnd j := by decide
theorem cid_arcv : ∀ j, cid (arcvSem j) = .arcv j := by decide

/-! ## What is handed over -/

/-- Leave to write slot `sl (h + 1)` of device `p`'s buffer of direction `D`, by a copy of hop `h`. -/
def perm (p : Dev nD) (D : Bool) (s : Fin 2) (h : ℕ) : sProp 𝕄 :=
  iprop((∃ X : Vec F S128x4096 .bf16, owns (p : Thread nD τ) (segM D (sl (h + 1)) s) fullShare X)
    ∗ reached ER (dmaC p (rcvSem D (sl (h + 1)) s)) (h / 3))
def permIf (p : Dev nD) (D : Bool) (s : Fin 2) (h : ℕ) : sProp 𝕄 := if h ≤ 6 then perm p D s h else iprop(emp)

/-- Leave to write row `r` of device `p`'s maxima. -/
def rowP (p r : Dev nD) : sProp 𝕄 := iprop(∃ X : Vec F S1x128 .f32, owns (p : Thread nD τ) (rowM r) fullShare X)
/-- The last `n` rows of device `o`'s maxima in the order of the ring. -/
def gath (o : Dev nD) : ℕ → sProp 𝕄
  | 0 => iprop(emp)
  | n + 1 => iprop(rowP o (dest (7 - n) o) ∗ gath o n)
/-- What rides with a copy of hop `h` sent by `c`. -/
def ride (D : Bool) (s : Fin 2) (o : Dev nD) (h : ℕ) : sProp 𝕄 := if D = true ∧ s = 0 then gath o (7 - h) else iprop(emp)

def rem : ℕ → PosShare TreeShare
  | 0 => fullShare
  | n + 1 => (rem n).right
abbrev piece (n : ℕ) : PosShare TreeShare := (rem n).left

/-- What the arrival of hop `h` hands device `c`. -/
def recvPay (c : Dev nD) (D : Bool) (s : Fin 2) (h : ℕ) : sProp 𝕄 :=
  iprop(owns (c : Thread nD τ) (segM D (sl (h + 1)) s) fullShare (segX m D (orig D (h + 1) c) s)
    ∗ permIf (fr D c) (!D) s (h + 1) ∗ ride D s (orig D (h + 1) c) h)
def sendPay (c : Dev nD) (D : Bool) (s : Fin 2) (h : ℕ) : sProp 𝕄 :=
  owns (c : Thread nD τ) (segM D (sl h) s) fullShare.right (segX m D (orig D h c) s)
def barPay (c : Dev nD) (D : Bool) : sProp 𝕄 := iprop(perm (fr D c) (!D) 0 0 ∗ perm (fr D c) (!D) 1 0)
def asndPay (c : Dev nD) (j : Fin 7) : sProp 𝕄 := owns (c : Thread nD τ) amM (piece j.val) (amX m c)
def arcvPay (c : Dev nD) (j : Fin 7) : sProp 𝕄 := owns (c : Thread nD τ) (rowM (bwd j c)) fullShare (amX m (bwd j c))

def payOf (c : Dev nD) : Cid → ℕ → sProp 𝕄
  | .stg, _ => iprop(emp)
  | .snd D k s, r => sendPay m c D s (3 * r + k.val)
  | .rcv D k s, r => recvPay m c D s (3 * r + (k.val + 2) % 3)
  | .asnd j, _ => asndPay m c j
  | .arcv j, _ => arcvPay m c j
def hasDuty : Cid → ℕ → Bool
  | .stg, _ => false
  | .snd D k s, r => decide (3 * r + k.val ≤ 6)
  | .rcv D k s, r => decide (3 * r + (k.val + 2) % 3 ≤ 6)
  | .asnd j, r => decide (r = 0)
  | .arcv j, r => decide (r = 0)
def amtOf : Cid → ℕ
  | .stg => 1
  | .snd _ _ _ => NS
  | .rcv _ _ _ => NS
  | .asnd _ => NA
  | .arcv _ => NA

instance perm_st (p : Dev nD) (D : Bool) (s : Fin 2) (h : ℕ) : BI.Storable (upEmb : UEmb _ 𝕄) (perm (F := F) p D s h) := by unfold perm; infer_instance
instance permIf_st (p : Dev nD) (D : Bool) (s : Fin 2) (h : ℕ) : BI.Storable (upEmb : UEmb _ 𝕄) (permIf (F := F) p D s h) := by unfold permIf; split <;> infer_instance
instance rowP_st (p r : Dev nD) : BI.Storable (upEmb : UEmb _ 𝕄) (rowP (F := F) p r) := by unfold rowP; infer_instance
instance gath_st (o : Dev nD) (n : ℕ) : BI.Storable (upEmb : UEmb _ 𝕄) (gath (F := F) o n) := by
  induction n with
  | zero => unfold gath; infer_instance
  | succ n ih => unfold gath; infer_instance
instance ride_st (D : Bool) (s : Fin 2) (o : Dev nD) (h : ℕ) : BI.Storable (upEmb : UEmb _ 𝕄) (ride (F := F) D s o h) := by unfold ride; split <;> infer_instance
instance recvPay_st (c : Dev nD) (D : Bool) (s : Fin 2) (h : ℕ) : BI.Storable (upEmb : UEmb _ 𝕄) (recvPay m c D s h) := by unfold recvPay; infer_instance
instance sendPay_st (c : Dev nD) (D : Bool) (s : Fin 2) (h : ℕ) : BI.Storable (upEmb : UEmb _ 𝕄) (sendPay m c D s h) := by unfold sendPay; infer_instance
instance barPay_st (c : Dev nD) (D : Bool) : BI.Storable (upEmb : UEmb _ 𝕄) (barPay (F := F) c D) := by unfold barPay; infer_instance
instance asndPay_st (c : Dev nD) (j : Fin 7) : BI.Storable (upEmb : UEmb _ 𝕄) (asndPay m c j) := by unfold asndPay; infer_instance
instance arcvPay_st (c : Dev nD) (j : Fin 7) : BI.Storable (upEmb : UEmb _ 𝕄) (arcvPay m c j) := by unfold arcvPay; infer_instance
instance payOf_st (c : Dev nD) (i : Cid) (r : ℕ) : BI.Storable (upEmb : UEmb _ 𝕄) (payOf m c i r) := by
  cases i <;> unfold payOf <;> infer_instance

theorem amtOf_pos (i : Cid) : 0 < amtOf i := by
  cases i
  · exact Nat.one_pos
  · exact NS_pos
  · exact NS_pos
  · exact NA_pos
  · exact NA_pos

/-- The rounds. -/
def Rd : Rounds.Schedule (GSem nD τ sig) Bool 𝕄 where
  duties g r := match g.2 with
    | .reg b => if b = barS ∧ r = 0 ∧ g.1.2 = .tc then Finset.univ else ∅
    | .dma q => if hasDuty (cid q) r = true ∧ g.1.2 = .tc then {false} else ∅
  unitless _ := False
  amount g _ _ := match g.2 with
    | .reg _ => 1
    | .dma q => amtOf (cid q)
  payload g r d := match g.2 with
    | .reg _ => barPay g.1.1 d
    | .dma q => payOf m g.1.1 (cid q) r
  amount_pos g _ _ _ := by
    rcases g with ⟨t, b | q⟩
    · exact Nat.one_pos
    · exact amtOf_pos _

instance Rd_st (g : GSem nD τ sig) (r : ℕ) (d : Bool) : BI.Storable (upEmb : UEmb _ 𝕄) ((Rd m).payload g r d) := by
  rcases g with ⟨t, b | q⟩
  · exact barPay_st _ _
  · exact payOf_st m _ _ _

/-! ## The rounds of each kind of cell -/

section Lemmas
variable (c : Dev nD)

theorem duties_bar : (Rd m).duties (barC c) 0 = Finset.univ := by
  show (if barS = barS ∧ 0 = 0 ∧ (c : Thread nD τ).2 = .tc then Finset.univ else ∅) = _; exact if_pos ⟨rfl, rfl, rfl⟩
theorem duties_dma (q : DmaSem sig) (r : ℕ) (h : hasDuty (cid q) r = true) : (Rd m).duties (dmaC c q) r = {false} := by
  show (if hasDuty (cid q) r = true ∧ (c : Thread nD τ).2 = .tc then {false} else ∅) = _; exact if_pos ⟨h, rfl⟩
theorem duties_bar_later : ∀ r, 1 ≤ r → (Rd m).duties (barC c) r = ∅ := fun r hr => by
  show (if barS = barS ∧ r = 0 ∧ (c : Thread nD τ).2 = .tc then Finset.univ else ∅) = _; exact if_neg fun h => by omega
theorem duties_dma_none (q : DmaSem sig) (R : ℕ) (h : ∀ r, R ≤ r → hasDuty (cid q) r = false) : ∀ r, R ≤ r → (Rd m).duties (dmaC c q) r = ∅ :=
  fun r hr => by
    show (if hasDuty (cid q) r = true ∧ (c : Thread nD τ).2 = .tc then {false} else ∅) = _
    exact if_neg fun h' => by rw [h r hr] at h'; exact Bool.false_ne_true h'.1

theorem expect_bar : (Rd m).expect (barC c) 0 = 2 := by
  unfold Schedule.expect Schedule.amountOf
  rw [duties_bar]; rfl
theorem expect_dma (q : DmaSem sig) (r : ℕ) (h : hasDuty (cid q) r = true) : (Rd m).expect (dmaC c q) r = amtOf (cid q) := by
  unfold Schedule.expect Schedule.amountOf
  rw [duties_dma m c q r h, Finset.sum_singleton]; rfl
theorem rest_bar : bigSep ((Rd m).duties (barC c) 0 \ ∅) (fun d => (Rd m).payload (barC c) 0 d) = iprop(barPay c false ∗ barPay c true) := by
  rw [Finset.sdiff_empty, duties_bar, bigSep_univ_eq_bigSepL [false, true] (by decide) (by decide), bigSepL_cons_cons, bigSepL_singleton]; rfl
theorem rest_dma (q : DmaSem sig) (r : ℕ) (h : hasDuty (cid q) r = true) :
    bigSep ((Rd m).duties (dmaC c q) r \ ∅) (fun d => (Rd m).payload (dmaC c q) r d) = payOf m c (cid q) r := by
  rw [Finset.sdiff_empty, duties_dma m c q r h, bigSep_singleton]; rfl

theorem hop_snd (h : ℕ) : 3 * (h / 3) + (sl h).val = h := by show 3 * (h / 3) + h % 3 = h; omega
theorem hop_rcv (h : ℕ) : 3 * (h / 3) + ((sl (h + 1)).val + 2) % 3 = h := by show 3 * (h / 3) + ((h + 1) % 3 + 2) % 3 = h; omega

theorem duty_snd (D : Bool) (s : Fin 2) (h : Fin 7) : hasDuty (cid (sndSem D (sl h.val) s)) (h.val / 3) = true := by
  rw [cid_snd]; exact decide_eq_true (by rw [hop_snd]; omega)
theorem duty_rcv (D : Bool) (s : Fin 2) (h : Fin 7) : hasDuty (cid (rcvSem D (sl (h.val + 1)) s)) (h.val / 3) = true := by
  rw [cid_rcv]; exact decide_eq_true (by rw [hop_rcv]; omega)
theorem pay_snd (D : Bool) (s : Fin 2) (h : ℕ) : payOf m c (cid (sndSem D (sl h) s)) (h / 3) = sendPay m c D s h := by
  rw [cid_snd]; show sendPay m c D s _ = _; rw [hop_snd]
theorem pay_rcv (D : Bool) (s : Fin 2) (h : ℕ) : payOf m c (cid (rcvSem D (sl (h + 1)) s)) (h / 3) = recvPay m c D s h := by
  rw [cid_rcv]; show recvPay m c D s _ = _; rw [hop_rcv]
theorem amt_snd (D : Bool) (k : Fin 3) (s : Fin 2) : amtOf (cid (sndSem D k s)) = NS := by rw [cid_snd]; rfl
theorem amt_rcv (D : Bool) (k : Fin 3) (s : Fin 2) : amtOf (cid (rcvSem D k s)) = NS := by rw [cid_rcv]; rfl
theorem duty_asnd (j : Fin 7) : hasDuty (cid (asndSem j)) 0 = true := by rw [cid_asnd]; rfl
theorem duty_arcv (j : Fin 7) : hasDuty (cid (arcvSem j)) 0 = true := by rw [cid_arcv]; rfl
theorem amt_asnd (j : Fin 7) : amtOf (cid (asndSem j)) = NA := by rw [cid_asnd]; rfl
theorem amt_arcv (j : Fin 7) : amtOf (cid (arcvSem j)) = NA := by rw [cid_arcv]; rfl
theorem pay_asnd (j : Fin 7) : payOf m c (cid (asndSem j)) 0 = asndPay m c j := by rw [cid_asnd]; rfl
theorem pay_arcv (j : Fin 7) : payOf m c (cid (arcvSem j)) 0 = arcvPay m c j := by rw [cid_arcv]; rfl

end Lemmas

/-! ## Dues, tokens, credits along a list of payments -/

abbrev Pay.cell (p : Pay) (c : Dev nD) : GSem nD τ sig := ((c : Thread nD τ), p.sem)

def owed (c : Dev nD) : List Pay → CellTallies nD τ sig ℕ
  | [] => 0
  | p :: l => owed c l + tallyAt (p.cell (p.tgt c)) p.ix p.amt
/-- The tokens of a payment device `c` makes: of the duty it pays, and of its own cell's. -/
def tok (c : Dev nD) (p : Pay) : sProp 𝕄 :=
  iprop(dutyTok ER (p.cell (p.tgt c)) p.rd p.du ∗ dutyTok ER ((c : Thread nD τ), p.ssem) p.rd p.du)
def toks (c : Dev nD) (l : List Pay) : sProp 𝕄 := bigSepL l (tok c)
/-- The credit for a payment made to device `c`. -/
def crd (c : Dev nD) (p : Pay) : sProp 𝕄 := cred (tallyAt (p.cell c) p.ix p.amt)
def crds (c : Dev nD) (l : List Pay) : sProp 𝕄 := bigSepL l (crd c)

theorem toks_cons (c : Dev nD) (p : Pay) (l : List Pay) : (toks c (p :: l) : sProp 𝕄) = iprop(tok c p ∗ toks c l) := bigSepL_cons p l _
theorem crds_cons (c : Dev nD) (p : Pay) (l : List Pay) : (crds c (p :: l) : sProp 𝕄) = iprop(crd c p ∗ crds c l) := bigSepL_cons p l _

def L (g : GSem nD τ sig) : Finset ℕ := if g.1.2 = .tc then Finset.range 8 else ∅
def lvC : Cid → ℕ → ℕ
  | .stg, _ => 0
  | .snd _ _ _, _ => 0
  | .rcv _ _ _, u => u + 1
  | .asnd _, _ => 0
  | .arcv _, _ => 20
def lv (g : GSem nD τ sig) (u : ℕ) : ℕ := match g.2 with
  | .reg _ => 1
  | .dma q => lvC (cid q) u

theorem L_of_ne (g : GSem nD τ sig) (h : g.1.2 ≠ .tc) : L g = ∅ := if_neg h
theorem mem_L (c : Dev nD) (sm : SemLoc sig) (u : ℕ) (h : u < 8) : u ∈ L ((c : Thread nD τ), sm) := by
  rw [show L ((c : Thread nD τ), sm) = Finset.range 8 from if_pos rfl]; exact Finset.mem_range.mpr h
theorem ix_lt (p : Pay) : p.ix < 8 := by
  rcases p with D | ⟨h, D, s⟩ | j
  · exact Nat.zero_lt_succ _
  · show h.val + 1 < 8; omega
  · exact Nat.zero_lt_succ _
theorem lv_pay (p : Pay) (c : Dev nD) : lv (p.cell c) p.ix = p.lev := by
  rcases p with D | ⟨h, D, s⟩ | j
  · rfl
  · show lvC (cid (rcvSem D _ s)) _ = _; rw [cid_rcv]; rfl
  · show lvC (cid (arcvSem j)) _ = _; rw [cid_arcv]; rfl

theorem owed_pos {c : Dev nD} {l : List Pay} {g : GSem nD τ sig} {u : ℕ} (h : 0 < owed c l g u) :
    ∃ p ∈ l, g = p.cell (p.tgt c) ∧ u = p.ix := by
  induction l with
  | nil => exact absurd h (Nat.lt_irrefl 0)
  | cons p l ih =>
    rw [owed, Pi.add_apply, Finsupp.add_apply] at h
    rcases Nat.add_pos_iff_pos_or_pos.mp h with h | h
    · obtain ⟨q, hq, e⟩ := ih h; exact ⟨q, List.mem_cons_of_mem _ hq, e⟩
    · exact ⟨p, List.mem_cons_self, Pipeline.tallyAt_pos h⟩

/-- A wait while owing the payments `l`, all above it. -/
theorem mayWait (c : Dev nD) (sm : SemLoc sig) (u : ℕ) (hu : u < 8) (l : List Pay)
    (hl : ∀ p ∈ l, lv ((c : Thread nD τ), sm) u < p.lev) :
    (levAts L lv : sProp 𝕄) ⊢ MayWait (c : Thread nD τ) sm u (owed c l) :=
  MayOwe.of_cut (L := L) (lev := lv) (lv ((c : Thread nD τ), sm) u)
    (fun p hp => by rw [Finset.mem_singleton.mp hp]; exact mem_L c sm u hu)
    (fun g i hg => by obtain ⟨p, -, rfl, rfl⟩ := owed_pos hg; exact mem_L _ _ _ (ix_lt p))
    (fun p hp => by rw [Finset.mem_singleton.mp hp])
    (fun g i hg => by obtain ⟨p, hp, rfl, rfl⟩ := owed_pos hg; rw [lv_pay]; exact hl p hp)

end Cert.KernelIdeal.Ring
-- ==== Proof.Ops.lean ====
/-
  One rule for each operation of the body that another device takes part in: the signals, the copies, the waits.
-/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

abbrev 𝒱₀ : Variants := Variants.none
abbrev WP (c : Dev nD) {α : Type} (p : P F α) (Q : α → sProp 𝕄) : sProp 𝕄 :=
  wp frame (wpE (defs₀ (F := F)) 𝒱₀ (c : Thread nD τ) none) Set.univ p Q

theorem WP_bind (c : Dev nD) {α β : Type} (p : P F α) (k : α → P F β) (Q : β → sProp 𝕄) :
    WP c p (fun a => WP c (k a) Q) ⊢ WP c (p >>= k) Q := Entails.of_eq (wp_bind _ _ _ p k Q).symm
theorem WP_pure (c : Dev nD) {α : Type} (a : α) (Q : α → sProp 𝕄) : Q a ⊢ WP c (pure a) Q := le_wp_ret _ _ _ a Q

/-! ## The cells, and what everyone knows of them -/

def csem (k : Fin 39) : SemLoc sig := if h : k.val = 0 then .reg barS else .dma ⟨k.val + 2, by show _ < 41; omega⟩
abbrev kcell (ck : Dev nD × Fin 39) : GSem nD τ sig := ((ck.1 : Thread nD τ), csem ck.2)
def kq (q : DmaSem sig) : Fin 39 := ⟨q.val - 2, by have : q.val < 41 := q.isLt; omega⟩
theorem csem_kq (q : DmaSem sig) (h : 3 ≤ q.val) : csem (kq q) = .dma q := by
  have hq : (kq q).val = q.val - 2 := rfl
  unfold csem
  rw [dif_neg (by omega)]
  exact congrArg SemLoc.dma (Fin.ext (by show (kq q).val + 2 = q.val; omega))

def records (K : Dev nD × Fin 39 → ℕ) : sProp 𝕄 :=
  iprop((bigSep Finset.univ fun ck : Dev nD × Fin 39 => cellInv ER (Rd m) (K ck) (kcell ck))
    ∗ bigSep Finset.univ fun ck : Dev nD × Fin 39 => reached ER (kcell ck) 0)
instance records_persistent (K : Dev nD × Fin 39 → ℕ) : BI.Persistent (records m K) := by unfold records; infer_instance
def env (K : Dev nD × Fin 39 → ℕ) : sProp 𝕄 := iprop(records m K ∗ levAts L lv)
instance env_persistent (K : Dev nD × Fin 39 → ℕ) : BI.Persistent (env m K) := by unfold env; infer_instance

variable (K : Dev nD × Fin 39 → ℕ) (c : Dev nD)

theorem inv_at (ck : Dev nD × Fin 39) :
    (bigSep Finset.univ fun ck : Dev nD × Fin 39 => (cellInv ER (Rd m) (K ck) (kcell ck) : sProp 𝕄)) ⊢ cellInv ER (Rd m) (K ck) (kcell ck) :=
  bigSep_elim (Finset.mem_univ ck)
theorem reached_at (ck : Dev nD × Fin 39) :
    (bigSep Finset.univ fun ck : Dev nD × Fin 39 => (reached ER (kcell ck) 0 : sProp 𝕄)) ⊢ reached ER (kcell ck) 0 :=
  bigSep_elim (Finset.mem_univ ck)
theorem env_inv (ck : Dev nD × Fin 39) : env m K ⊢ cellInv ER (Rd m) (K ck) (kcell ck) := by
  unfold env records
  iintro ⟨⟨#HI, #HR⟩, #HL⟩
  iapply (inv_at m K ck); iexact HI
theorem env_reached (ck : Dev nD × Fin 39) : env m K ⊢ reached ER (kcell ck) 0 := by
  unfold env records
  iintro ⟨⟨#HI, #HR⟩, #HL⟩
  iapply (reached_at (F := F) ck); iexact HR
theorem env_lev : env m K ⊢ levAts L lv := by
  unfold env
  iintro ⟨#HR, #HL⟩; iexact HL
theorem inv_bar : env m K ⊢ cellInv ER (Rd m) (K (c, 0)) (barC c) := env_inv m K (c, 0)
theorem inv_dma (q : DmaSem sig) (h : 3 ≤ q.val) : env m K ⊢ cellInv ER (Rd m) (K (c, kq q)) (dmaC c q) := by
  have := env_inv m K (c, kq q)
  rwa [show kcell (c, kq q) = dmaC c q from by show ((c : Thread nD τ), csem (kq q)) = _; rw [csem_kq q h]] at this
theorem reached_bar : env m K ⊢ reached ER (barC c) 0 := env_reached m K (c, 0)
theorem reached_dma (q : DmaSem sig) (h : 3 ≤ q.val) : env m K ⊢ reached ER (dmaC c q) 0 := by
  have := env_reached m K (c, kq q)
  rwa [show kcell (c, kq q) = dmaC c q from by show ((c : Thread nD τ), csem (kq q)) = _; rw [csem_kq q h]] at this

theorem snd_ge : ∀ D k s, 3 ≤ (sndSem D k s).val := by decide
theorem rcv_ge : ∀ D k s, 3 ≤ (rcvSem D k s).val := by decide
theorem asnd_ge : ∀ j, 3 ≤ (asndSem j).val := by decide
theorem arcv_ge : ∀ j, 3 ≤ (arcvSem j).val := by decide

/-- What device `c` owes, whatever it waited for. -/
def Ow (c : Dev nD) (l : List Pay) : sProp 𝕄 := iprop(∃ W, owes (c : Thread nD τ) (owed c l) W)

/-- The position of a cell. -/
def pos (g : GSem nD τ sig) (R : ℕ) : sProp 𝕄 := iprop(atPos ER g R ∅ 0 ∗ reached ER g R)

/-! ## Waiting -/

theorem wp_wait_dma (q : DmaSem sig) (hq : 3 ≤ q.val) (r u : ℕ) (hu : u < 8) (l : List Pay) (hl : ∀ p ∈ l, lvC (cid q) u < p.lev)
    (hd : hasDuty (cid q) r = true) {sp sp' : Space} {s s' : Shape} {e e' : EltTy}
    {src : Memref sig .tc sp' s' e'} {dst : Memref sig .tc sp s e} {hsrc : src.view.WordExact} {hdst : dst.view.WordExact}
    (ha : dst.view.dmaCredit = amtOf (cid q)) (Q : PUnit → sProp 𝕄) :
    iprop(env m K ∗ cred (tallyAt (dmaC c q) u (amtOf (cid q))) ∗ pos (dmaC c q) r ∗ Ow c l
        ∗ ((pos (dmaC c q) (r + 1) ∗ payOf m c (cid q) r ∗ Ow c l) -∗ Q ⟨⟩))
      ⊢ WP c (Prog.lift (.waitDma2 q src dst hsrc hdst)) Q := by
  unfold Ow pos
  iintro ⟨#HE, Hc, ⟨Hat, -⟩, ⟨%W, HO⟩, Hk⟩
  iapply (Rounds.wp_wait_rest_token 𝒱₀ ER (Rd m) (c : Thread nD τ) none (κ := K (c, kq q)) (sm := .dma q)
      (wpE_waitDma2_eq 𝒱₀ (c : Thread nD τ) none Set.univ) (Set.mem_univ _) u (O := owed c l) (W := W) (R := r) (m := 0) (T := ∅)
      (by rw [Nat.zero_add, ha, expect_dma m c q r hd])) $$ [Hc HO Hat]
  · isplitr; · iapply (inv_dma m K c q hq); iexact HE
    isplitl [Hc]; · rw [ha]; iexact Hc
    isplitl [HO]; · iexact HO
    isplitr
    · iapply (mayWait c (.dma q) u hu l hl); iapply (env_lev m K); iexact HE
    iexact Hat
  iintro ⟨HO, Hat, Hr, Hpay⟩
  rw [wp_ret]; imodintro
  iapply Hk
  isplitl [Hat Hr]
  · isplitl [Hat]; · iexact Hat
    iexact Hr
  isplitl [Hpay]
  · iapply (Entails.of_eq (rest_dma m c q r hd)); iexact Hpay
  iexists _; iexact HO

theorem wp_wBar (l : List Pay) (hl : ∀ p ∈ l, 1 < p.lev) (Q : PUnit → sProp 𝕄) :
    iprop(env m K ∗ cred (tallyAt (barC c) 0 2) ∗ pos (barC c) 0 ∗ Ow c l
        ∗ ((pos (barC c) 1 ∗ barPay c false ∗ barPay c true ∗ Ow c l) -∗ Q ⟨⟩))
      ⊢ WP c (wBar (F := F)) Q := by
  unfold Ow pos wBar
  simp only [semWaitWord, Prog.lift, Prog.bind_op, Prog.bind_ret, Prog.pure_eq_ret]
  iintro ⟨#HE, Hc, ⟨Hat, -⟩, ⟨%W, HO⟩, Hk⟩
  iapply (Rounds.wp_wait_rest_token 𝒱₀ ER (Rd m) (c : Thread nD τ) none (κ := K (c, 0)) (sm := .reg barS)
      (wpE_semWait_eq 𝒱₀ (c : Thread nD τ) none Set.univ) (Set.mem_univ _) 0 (O := owed c l) (W := W) (R := 0) (m := 0) (T := ∅)
      (by rw [expect_bar]; decide)) $$ [Hc HO Hat]
  · isplitr; · iapply (inv_bar m K c); iexact HE
    isplitl [Hc]; · iexact Hc
    isplitl [HO]; · iexact HO
    isplitr
    · iapply (mayWait c (.reg barS) 0 (by decide) l hl); iapply (env_lev m K); iexact HE
    iexact Hat
  iintro ⟨HO, Hat, Hr, Hpay⟩
  ihave Hp := (Entails.of_eq (rest_bar m c)) $$ Hpay
  icases Hp with ⟨Hp1, Hp2⟩
  rw [wp_ret]; imodintro
  iapply Hk
  isplitl [Hat Hr]
  · isplitl [Hat]; · iexact Hat
    iexact Hr
  isplitl [Hp1]; · iexact Hp1
  isplitl [Hp2]; · iexact Hp2
  iexists _; iexact HO

theorem seg_credit : ∀ (D : Bool) (k : Fin 3) (s : Fin 2), (segM D k s).view.dmaCredit = NS
  | true, _, _ => rfl
  | false, _, _ => rfl
theorem row_credit (d : Dev nD) : (rowM d).view.dmaCredit = NA := rfl

/-- The wait for a copy's source. -/
theorem wp_wSend (h : Fin 7) (D : Bool) (s : Fin 2) (l : List Pay) (hl : ∀ p ∈ l, 0 < p.lev) (Q : PUnit → sProp 𝕄) :
    iprop(env m K ∗ cred (tallyAt (dmaC c (sndSem D (sl h.val) s)) 0 NS) ∗ pos (dmaC c (sndSem D (sl h.val) s)) (h.val / 3) ∗ Ow c l
        ∗ ((pos (dmaC c (sndSem D (sl h.val) s)) (h.val / 3 + 1) ∗ sendPay m c D s h.val ∗ Ow c l) -∗ Q ⟨⟩))
      ⊢ WP c (wSend (F := F) h D s) Q := by
  have hw := wp_wait_dma m K c (sndSem D (sl h.val) s) (snd_ge _ _ _) (h.val / 3) 0 (by decide) l
    (by rw [cid_snd]; exact hl) (duty_snd D s h) (hsrc := segM_exact D (sl (h.val + 1)) s) (hdst := segM_exact D (sl h.val) s)
    (by rw [seg_credit, amt_snd]) Q
  rwa [pay_snd, amt_snd] at hw

/-- The wait for an arrival. -/
theorem wp_wRecv (h : Fin 7) (D : Bool) (s : Fin 2) (l : List Pay) (hl : ∀ p ∈ l, h.val + 2 < p.lev) (Q : PUnit → sProp 𝕄) :
    iprop(env m K ∗ crd c (.hop h D s) ∗ pos (dmaC c (rcvSem D (sl (h.val + 1)) s)) (h.val / 3) ∗ Ow c l
        ∗ ((pos (dmaC c (rcvSem D (sl (h.val + 1)) s)) (h.val / 3 + 1) ∗ recvPay m c D s h.val ∗ Ow c l) -∗ Q ⟨⟩))
      ⊢ WP c (wRecv (F := F) h D s) Q := by
  have hw := wp_wait_dma m K c (rcvSem D (sl (h.val + 1)) s) (rcv_ge _ _ _) (h.val / 3) (h.val + 1) (by omega) l
    (by rw [cid_rcv]; exact hl) (duty_rcv D s h) (hsrc := segM_exact D (sl h.val) s) (hdst := segM_exact D (sl (h.val + 1)) s)
    (by rw [seg_credit, amt_rcv]) Q
  rwa [pay_rcv, amt_rcv] at hw

theorem wp_wARecv (j : Fin 7) (Q : PUnit → sProp 𝕄) :
    iprop(env m K ∗ crd c (.am j) ∗ pos (dmaC c (arcvSem j)) 0 ∗ Ow c []
        ∗ ((pos (dmaC c (arcvSem j)) 1 ∗ arcvPay m c j ∗ Ow c []) -∗ Q ⟨⟩))
      ⊢ WP c (wARecv (F := F) j c) Q := by
  have hw := wp_wait_dma m K c (arcvSem j) (arcv_ge _) 0 0 (by decide) []
    (fun p hp => absurd hp (List.not_mem_nil)) (duty_arcv j) (src := amM) (dst := rowM' c j) (hsrc := (Memref.isWhole_whole _).wordExact)
    (hdst := View.wordExact_bits rfl)
    (by rw [amt_arcv]) Q
  rwa [pay_arcv, amt_arcv] at hw

theorem wp_wASend (j : Fin 7) (Q : PUnit → sProp 𝕄) :
    iprop(env m K ∗ cred (tallyAt (dmaC c (asndSem j)) 0 NA) ∗ pos (dmaC c (asndSem j)) 0 ∗ Ow c []
        ∗ ((pos (dmaC c (asndSem j)) 1 ∗ asndPay m c j ∗ Ow c []) -∗ Q ⟨⟩))
      ⊢ WP c (wASend (F := F) j c) Q := by
  have hw := wp_wait_dma m K c (asndSem j) (asnd_ge _) 0 0 (by decide) []
    (fun p hp => absurd hp (List.not_mem_nil)) (duty_asnd j) (src := rowM c) (dst := amM) (hsrc := View.wordExact_bits rfl)
    (hdst := (Memref.isWhole_whole _).wordExact)
    (by rw [amt_asnd]) Q
  rwa [pay_asnd, amt_asnd] at hw

/-! ## Signalling -/

theorem sig_pay (D : Bool) : iprop(perm c (!D) 0 0 ∗ perm c (!D) 1 0) ⊢ (Rd m).payload (barC (nxt D c)) 0 D := by
  show _ ⊢ barPay (nxt D c) D
  unfold barPay; rw [fr, fr_to]

theorem wp_sig (D : Bool) (n : Dev nD) (hn : n = nxt D c) (l : List Pay) (Q : PUnit → sProp 𝕄) :
    iprop(env m K ∗ (perm c (!D) 0 0 ∗ perm c (!D) 1 0) ∗ Ow c (.bar D :: l) ∗ toks c (.bar D :: l)
        ∗ ((Ow c l ∗ toks c l) -∗ Q ⟨⟩))
      ⊢ WP c (semSignalWord n barS 1#32) Q := by
  subst hn
  unfold Ow
  simp only [semSignalWord, Prog.lift, Prog.bind_op, Prog.bind_ret, Prog.pure_eq_ret]
  rw [toks_cons]; unfold tok
  iintro ⟨#HE, Hp, ⟨%W, HO⟩, ⟨⟨Ht, -⟩, HT⟩, Hk⟩
  iapply (Rounds.wp_signal 𝒱₀ ER (Rd m) (c : Thread nD τ) none (dst := (nxt D c : Thread nD τ)) (κ := K (nxt D c, 0)) (r := 0)
      (d := D) (by rw [duties_bar]; exact Finset.mem_univ _) (show (1 : ℕ) = _ by decide) 0 (owed c l) rfl)
    $$ [HO Ht Hp]
  · isplitr; · iapply (inv_bar m K (nxt D c)); iexact HE
    isplitl [HO]; · iexact HO
    isplitl [Ht]; · iexact Ht
    isplitl [Hp]
    · iapply (sig_pay m c D); iexact Hp
    iapply (reached_bar m K (nxt D c)); iexact HE
  iintro HO
  rw [wp_ret]; imodintro
  iapply Hk
  isplitl [HO]; · iexists _; iexact HO
  iexact HT

theorem wp_sigPrev (l : List Pay) (Q : PUnit → sProp 𝕄) :
    iprop(env m K ∗ (perm c true 0 0 ∗ perm c true 1 0) ∗ Ow c (.bar false :: l) ∗ toks c (.bar false :: l)
        ∗ ((Ow c l ∗ toks c l) -∗ Q ⟨⟩))
      ⊢ WP c (sigPrev (F := F) c) Q := wp_sig m K c false _ (dev1_eq c) l Q
theorem wp_sigNext (l : List Pay) (Q : PUnit → sProp 𝕄) :
    iprop(env m K ∗ (perm c false 0 0 ∗ perm c false 1 0) ∗ Ow c (.bar true :: l) ∗ toks c (.bar true :: l)
        ∗ ((Ow c l ∗ toks c l) -∗ Q ⟨⟩))
      ⊢ WP c (sigNext (F := F) c) Q := wp_sig m K c true _ (dev2_eq c) l Q

/-! ## Sending -/

theorem seg_amount : ∀ (D : Bool) (k : Fin 3) (s : Fin 2) (q : DmaSem sig), (segM D k s).view.amount (.dma q) = NS
  | true, _, _, _ => rfl
  | false, _, _, _ => rfl

theorem amount_dma (q : DmaSem sig) (r : ℕ) (d : Bool) : (Rd m).amount (dmaC c q) r d = amtOf (cid q) := rfl

theorem seg_leaves (h : Fin 7) (D : Bool) (s : Fin 2) (fs : (segM D (sl h.val) s).view.ty.Contents (Elt F))
    (hfs : (segM D (sl h.val) s).view.read (Elt F) fs = segX m D (orig D h.val c) s) :
    ((segM D (sl h.val) s).view.loc (c : Thread nD τ) ↦[(segM D (sl h.val) s).view.set]{fullShare.right} fs : sProp 𝕄)
      ⊢ (Rd m).payload (dmaC c (sndSem D (sl h.val) s)) (h.val / 3) false := by
  show _ ⊢ payOf m c (cid (sndSem D (sl h.val) s)) (h.val / 3)
  rw [pay_snd]; unfold sendPay owns
  iintro H; iexists fs; isplitr; · ipureintro; exact hfs
  iexact H

theorem seg_lands (h : Fin 7) (D : Bool) (s : Fin 2) (fs : (segM D (sl h.val) s).view.ty.Contents (Elt F))
    (hfs : (segM D (sl h.val) s).view.read (Elt F) fs = segX m D (orig D h.val c) s)
    (fd : (segM D (sl (h.val + 1)) s).view.ty.Contents (Elt F)) :
    (iprop(((segM D (sl (h.val + 1)) s).view.loc (nxt D c : Thread nD τ) ↦[(segM D (sl (h.val + 1)) s).view.set]{fullShare}
          ((segM D (sl (h.val + 1)) s).view.write (Elt F) fd ((segM D (sl h.val) s).view.read (Elt F) fs) Finset.univ))
        ∗ (permIf c (!D) s (h.val + 1) ∗ ride D s (orig D h.val c) h.val)) : sProp 𝕄)
      ⊢ (Rd m).payload (dmaC (nxt D c) (rcvSem D (sl (h.val + 1)) s)) (h.val / 3) false := by
  show _ ⊢ payOf m (nxt D c) (cid (rcvSem D (sl (h.val + 1)) s)) (h.val / 3)
  rw [pay_rcv]; unfold recvPay owns
  rw [orig_to, fr, fr_to]
  iintro ⟨H, H1, H2⟩
  isplitl [H]
  · iexists ((segM D (sl (h.val + 1)) s).view.write (Elt F) fd ((segM D (sl h.val) s).view.read (Elt F) fs) Finset.univ); isplitr
    · ipureintro; rw [View.read_write_univ, hfs]
    iexact H
  isplitl [H1]; · iexact H1
  iexact H2

set_option maxHeartbeats 1600000 in
theorem wp_sendAt (h : Fin 7) (D : Bool) (s : Fin 2) (n : Dev nD) (hn : n = nxt D c) (l : List Pay) (Q : PUnit → sProp 𝕄)
    {hsc : (segM D (sl (h.val + 1)) s : Memref sig (Dev.tc n : Thread nD τ).2.kind .vmem S128x4096 .bf16).view.ref.isScScratch = false}
    {hsrc : (segM D (sl h.val) s).view.WordExact} {hdst : (segM D (sl (h.val + 1)) s).view.WordExact}
    {hsem : DmaTarget.Typed .vmem (.dma (rcvSem D (sl (h.val + 1)) s))
      (.remote (Dev.tc n : Thread nD τ) (segM D (sl (h.val + 1)) s) (.dma (sndSem D (sl h.val) s)) hsc)} :
    iprop(env m K ∗ owns (c : Thread nD τ) (segM D (sl h.val) s) fullShare (segX m D (orig D h.val c) s)
        ∗ perm (nxt D c) D s h.val ∗ permIf c (!D) s (h.val + 1) ∗ ride D s (orig D h.val c) h.val
        ∗ reached ER (dmaC c (sndSem D (sl h.val) s)) (h.val / 3)
        ∗ Ow c (.hop h D s :: l) ∗ toks c (.hop h D s :: l)
        ∗ ((owns (c : Thread nD τ) (segM D (sl h.val) s) fullShare.left (segX m D (orig D h.val c) s)
            ∗ cred (tallyAt (dmaC c (sndSem D (sl h.val) s)) 0 NS) ∗ Ow c l ∗ toks c l) -∗ Q ⟨⟩))
      ⊢ WP c (Prog.lift (.enqueueDma (segM D (sl h.val) s) (.remote (Dev.tc n : Thread nD τ) (segM D (sl (h.val + 1)) s) (.dma (sndSem D (sl h.val) s)) hsc)
          (.dma (rcvSem D (sl (h.val + 1)) s)) hsrc hdst hsem)) Q := by
  subst hn
  unfold Ow perm
  rw [toks_cons]; unfold tok
  iintro ⟨#HE, Hsrc, ⟨⟨%X, Hdst⟩, #HrD⟩, Hdep, Hride, #HrS, ⟨%W, HO⟩, ⟨⟨HtD, HtS⟩, HT⟩, Hk⟩
  ihave Hs := (owns_halves (c : Thread nD τ) (segM D (sl h.val) s) fullShare _).1 $$ Hsrc
  icases Hs with ⟨Hl, Hr⟩
  unfold owns
  icases Hr with ⟨%fs, %hfs, Hr⟩
  icases Hdst with ⟨%fd, -, Hdst⟩
  iapply (Rounds.wp_send_pointsTo_with 𝒱₀ ER (Rd m) (c : Thread nD τ) none
      (c' := (nxt D c : Thread nD τ)) (src := segM D (sl h.val) s) (dst := segM D (sl (h.val + 1)) s) (sS := .dma (sndSem D (sl h.val) s)) (sem := .dma (rcvSem D (sl (h.val + 1)) s))
      (κ₁ := K (c, kq (sndSem D (sl h.val) s))) (κ₂ := K (nxt D c, kq (rcvSem D (sl (h.val + 1)) s)))
      (r₁ := h.val / 3) (r₂ := h.val / 3) (d₁ := false) (d₂ := false) (fd := fd) (fs := fs) (q := fullShare.right)
      (F := iprop(permIf c (!D) s (h.val + 1) ∗ ride D s (orig D h.val c) h.val))
      (by rw [duties_dma m c _ _ (duty_snd D s h)]; exact Finset.mem_singleton_self _)
      (by rw [duties_dma m (nxt D c) _ _ (duty_rcv D s h)]; exact Finset.mem_singleton_self _)
      (h.val + 1) 0 NS (seg_amount _ _ _ _) ((amount_dma m c _ _ _).trans (amt_snd D (sl h.val) s))
      ((amount_dma m (nxt D c) _ _ _).trans (amt_rcv D (sl (h.val + 1)) s)) (owed c l) rfl (W := W)
      (seg_leaves m c h D s fs hfs) (seg_lands m c h D s fs hfs fd)) $$ [Hr Hdst Hdep Hride HO HtD HtS]
  · isplitr; · iapply (inv_dma m K c _ (snd_ge _ _ _)); iexact HE
    isplitr; · iapply (inv_dma m K (nxt D c) _ (rcv_ge _ _ _)); iexact HE
    isplitl [Hr]; · iexact Hr
    isplitl [Hdst Hdep Hride]
    · isplitl [Hdst]; · iexact Hdst
      isplitl [Hdep]; · iexact Hdep
      iexact Hride
    isplitl [HO]; · iexact HO
    isplitl [HtS]; · iexact HtS
    isplitr; · iexact HrS
    isplitl [HtD]; · iexact HtD
    iexact HrD
  iintro ⟨Hc, HO⟩
  rw [wp_ret]; imodintro
  iapply Hk
  isplitl [Hl]; · iexact Hl
  isplitl [Hc]; · iexact Hc
  isplitl [HO]; · iexists _; iexact HO
  iexact HT

theorem wp_sendOp (h : Fin 7) (D : Bool) (s : Fin 2) (l : List Pay) (Q : PUnit → sProp 𝕄) :
    iprop(env m K ∗ owns (c : Thread nD τ) (segM D (sl h.val) s) fullShare (segX m D (orig D h.val c) s)
        ∗ perm (nxt D c) D s h.val ∗ permIf c (!D) s (h.val + 1) ∗ ride D s (orig D h.val c) h.val
        ∗ reached ER (dmaC c (sndSem D (sl h.val) s)) (h.val / 3)
        ∗ Ow c (.hop h D s :: l) ∗ toks c (.hop h D s :: l)
        ∗ ((owns (c : Thread nD τ) (segM D (sl h.val) s) fullShare.left (segX m D (orig D h.val c) s)
            ∗ cred (tallyAt (dmaC c (sndSem D (sl h.val) s)) 0 NS) ∗ Ow c l ∗ toks c l) -∗ Q ⟨⟩))
      ⊢ WP c (sendOp (F := F) h D s c) Q :=
  wp_sendAt m K c h D s _ (sendDev_eq h D s c) l Q

/-- A copy of the maximum, out of one piece of its buffer's share. -/
theorem row_leaves (j : Fin 7) (fs : amM.view.ty.Contents (Elt F)) (hfs : amM.view.read (Elt F) fs = amX m c) :
    (amM.view.loc (c : Thread nD τ) ↦[amM.view.set]{piece j.val} fs : sProp 𝕄) ⊢ (Rd m).payload (dmaC c (asndSem j)) 0 false := by
  show _ ⊢ payOf m c (cid (asndSem j)) 0
  rw [pay_asnd]; unfold asndPay owns
  iintro H; iexists fs; isplitr; · ipureintro; exact hfs
  iexact H

theorem row_lands (j : Fin 7) (fs : amM.view.ty.Contents (Elt F)) (hfs : amM.view.read (Elt F) fs = amX m c) (fd : (rowM c).view.ty.Contents (Elt F)) :
    ((rowM c).view.loc (fwd j c : Thread nD τ) ↦[(rowM c).view.set]{fullShare}
        ((rowM c).view.write (Elt F) fd (amM.view.read (Elt F) fs) Finset.univ) : sProp 𝕄)
      ⊢ (Rd m).payload (dmaC (fwd j c) (arcvSem j)) 0 false := by
  show _ ⊢ payOf m (fwd j c) (cid (arcvSem j)) 0
  rw [pay_arcv]; unfold arcvPay owns
  rw [bwd_fwd]
  iintro H
  iexists ((rowM c).view.write (Elt F) fd (amM.view.read (Elt F) fs) Finset.univ); isplitr
  · ipureintro; rw [View.read_write_univ, hfs]
  iexact H

set_option maxHeartbeats 1600000 in
theorem wp_asndAt (j : Fin 7) (n : Dev nD) (hn : n = fwd j c) (l : List Pay) (Q : PUnit → sProp 𝕄)
    {hsc : (rowM c : Memref sig (Dev.tc n : Thread nD τ).2.kind .vmem S1x128 .f32).view.ref.isScScratch = false}
    {hsrc : amM.view.WordExact} {hdst : (rowM c).view.WordExact}
    {hsem : DmaTarget.Typed .vmem (.dma (arcvSem j)) (.remote (Dev.tc n : Thread nD τ) (rowM c) (.dma (asndSem j)) hsc)} :
    iprop(env m K ∗ owns (c : Thread nD τ) amM (piece j.val) (amX m c) ∗ rowP (fwd j c) c
        ∗ Ow c (.am j :: l) ∗ toks c (.am j :: l)
        ∗ ((cred (tallyAt (dmaC c (asndSem j)) 0 NA) ∗ Ow c l ∗ toks c l) -∗ Q ⟨⟩))
      ⊢ WP c (Prog.lift (.enqueueDma amM (.remote (Dev.tc n : Thread nD τ) (rowM c) (.dma (asndSem j)) hsc) (.dma (arcvSem j)) hsrc hdst hsem)) Q := by
  subst hn
  unfold Ow rowP
  rw [toks_cons]; unfold tok
  iintro ⟨#HE, Hr, ⟨%X, Hdst⟩, ⟨%W, HO⟩, ⟨⟨HtD, HtS⟩, HT⟩, Hk⟩
  unfold owns
  icases Hr with ⟨%fs, %hfs, Hr⟩
  icases Hdst with ⟨%fd, -, Hdst⟩
  iapply (Rounds.wp_send_pointsTo 𝒱₀ ER (Rd m) (c : Thread nD τ) none
      (c' := (fwd j c : Thread nD τ)) (src := amM) (dst := rowM c) (sS := .dma (asndSem j)) (sem := .dma (arcvSem j))
      (κ₁ := K (c, kq (asndSem j))) (κ₂ := K (fwd j c, kq (arcvSem j)))
      (r₁ := 0) (r₂ := 0) (d₁ := false) (d₂ := false) (fd := fd) (fs := fs) (q := piece j.val)
      (by rw [duties_dma m c _ _ (duty_asnd j)]; exact Finset.mem_singleton_self _)
      (by rw [duties_dma m (fwd j c) _ _ (duty_arcv j)]; exact Finset.mem_singleton_self _)
      0 0 NA rfl ((amount_dma m c _ _ _).trans (amt_asnd j)) ((amount_dma m (fwd j c) _ _ _).trans (amt_arcv j)) (owed c l) rfl (W := W)
      (row_leaves m c j fs hfs) (row_lands m c j fs hfs fd)) $$ [Hr Hdst HO HtD HtS]
  · isplitr; · iapply (inv_dma m K c _ (asnd_ge _)); iexact HE
    isplitr; · iapply (inv_dma m K (fwd j c) _ (arcv_ge _)); iexact HE
    isplitl [Hr]; · iexact Hr
    isplitl [Hdst]; · iexact Hdst
    isplitl [HO]; · iexact HO
    isplitl [HtS]; · iexact HtS
    isplitr; · iapply (reached_dma m K c _ (asnd_ge _)); iexact HE
    isplitl [HtD]; · iexact HtD
    iapply (reached_dma m K (fwd j c) _ (arcv_ge _)); iexact HE
  iintro ⟨Hc, HO⟩
  rw [wp_ret]; imodintro
  iapply Hk
  isplitl [Hc]; · iexact Hc
  isplitl [HO]; · iexists _; iexact HO
  iexact HT

theorem wp_asnd (j : Fin 7) (l : List Pay) (Q : PUnit → sProp 𝕄) :
    iprop(env m K ∗ owns (c : Thread nD τ) amM (piece j.val) (amX m c) ∗ rowP (fwd j c) c
        ∗ Ow c (.am j :: l) ∗ toks c (.am j :: l)
        ∗ ((cred (tallyAt (dmaC c (asndSem j)) 0 NA) ∗ Ow c l ∗ toks c l) -∗ Q ⟨⟩))
      ⊢ WP c (asnd (F := F) j c) Q :=
  wp_asndAt m K c j _ (asndDev_eq j c) l Q

/-! ## The end of a cell -/

theorem close_dma (q : DmaSem sig) (hq : 3 ≤ q.val) (R : ℕ) (h : ∀ r, R ≤ r → hasDuty (cid q) r = false) :
    iprop(env m K ∗ pos (dmaC c q) R) ⊢ iprop(|={Set.univ}=> semVal (dmaC c q) 0) := by
  unfold pos
  iintro ⟨#HE, Hat, -⟩
  iapply (Rounds.cell_close ER (Rd m) (Set.mem_univ (K (c, kq q))) (fun h => h) (R := R) (duties_dma_none m c q R h))
  isplitr; · iapply (inv_dma m K c q hq); iexact HE
  iexact Hat
theorem close_bar : iprop(env m K ∗ pos (barC c) 1) ⊢ iprop(|={Set.univ}=> semVal (barC c) 0) := by
  unfold pos
  iintro ⟨#HE, Hat, -⟩
  iapply (Rounds.cell_close ER (Rd m) (Set.mem_univ (K (c, 0))) (fun h => h) (R := 1) (duties_bar_later m c))
  isplitr; · iapply (inv_bar m K c); iexact HE
  iexact Hat

end Cert.KernelIdeal.Ring
-- ==== Proof.Buf.lean ====
/-
  The ring buffers segment by segment, and the loads and stores of the body.
-/
module

public import proofs.«01_k».proof.Proof.Ops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)
variable (c : Dev nD)

/-! ## Segments of a slot -/

theorem seg_emb (k : Fin 3) (s : Fin 2) (j : S1x128x4096.Idx) : (segR k s).emb j = (slotR k).emb ((halfR s).emb j) := by
  funext a
  apply Fin.ext
  rw [Rect.emb_apply, Rect.emb_apply, Rect.emb_apply]
  fin_cases a
  · show k.val + 1 * _ = k.val + 1 * (0 + 1 * _); omega
  · show 128 * s.val + 1 * _ = 0 + 1 * (128 * s.val + 1 * _); omega
  · show 0 + 1 * _ = 0 + 1 * (0 + 1 * _); omega

theorem half_cover (j : S1x256x4096.Idx) : ∃ (s : Fin 2) (i : S1x128x4096.Idx), j = (halfR s).emb i := by
  have h (s : Fin 2) (hs : 128 * s.val ≤ (j 1).val) (hs' : (j 1).val < 128 * s.val + 128) : j ∈ (halfR s).set := by
    rw [Rect.mem_set_unit]
    intro a
    have := (j a).isLt
    fin_cases a
    · exact ⟨Nat.zero_le _, by show (j 0).val < 0 + 1; have : (j 0).val < 1 := (j 0).isLt; omega⟩
    · exact ⟨hs, hs'⟩
    · exact ⟨Nat.zero_le _, by show (j 2).val < 0 + 4096; have : (j 2).val < 4096 := (j 2).isLt; omega⟩
  have hj : (j 1).val < 256 := (j 1).isLt
  have key (s : Fin 2) (hs : j ∈ (halfR s).set) : ∃ i : S1x128x4096.Idx, j = (halfR s).emb i := by
    rw [← Rect.map_emb_univ, Finset.mem_map] at hs
    obtain ⟨i, -, e⟩ := hs
    exact ⟨i, e.symm⟩
  by_cases h1 : (j 1).val < 128
  · exact ⟨0, key 0 (h 0 (by show 128 * 0 ≤ _; omega) (by show _ < 128 * 0 + 128; omega))⟩
  · exact ⟨1, key 1 (h 1 (by show 128 * 1 ≤ _; omega) (by show _ < 128 * 1 + 128; omega))⟩

theorem seg_disj {k k' : Fin 3} {s s' : Fin 2} (h : (k, s) ≠ (k', s')) : Disjoint (segR k s).set (segR k' s').set := by
  by_cases hk : k = k'
  · subst hk
    have hs : s.val ≠ s'.val := fun e => h (by rw [Fin.ext e])
    exact Rect.unit_disjoint (1 : Fin 3) (by show 128 * s.val + 128 ≤ 128 * s'.val ∨ 128 * s'.val + 128 ≤ 128 * s.val; omega)
  · have hk : k.val ≠ k'.val := fun e => hk (Fin.ext e)
    exact Rect.unit_disjoint (0 : Fin 3) (by show k.val + 1 ≤ k'.val ∨ k'.val + 1 ≤ k.val; omega)

section Segs
variable (M : Memref sig .tc .vmem S3x256x4096 .bf16)

abbrev sg (k : Fin 3) (s : Fin 2) : Memref sig .tc .vmem S128x4096 .bf16 :=
  (M.slice (segR k s) (fun _ => rfl)).squeeze S128x4096 squeezes_S1x128x4096_S128x4096
abbrev slS (k : Fin 3) : Finset M.view.ty.Idx := (M.view.slice (slotR k)).set
abbrev sgS (k : Fin 3) (s : Fin 2) : Finset M.view.ty.Idx := (M.view.slice (segR k s)).set

/-- What a segment reads of the buffer. -/
def sgRd (k : Fin 3) (s : Fin 2) (f : M.view.ty.Contents (Elt F)) : Vec F S128x4096 .bf16 :=
  fun i => M.view.read (Elt F) f ((segR k s).emb (sq i))

theorem owns_sg (k : Fin 3) (s : Fin 2) (q : PosShare TreeShare) (X : Vec F S128x4096 .bf16) :
    (owns (c : Thread nD τ) (sg M k s) q X : sProp 𝕄) = iprop(∃ f, ⌜sgRd M k s f = X⌝ ∗ (M.view.loc (c : Thread nD τ) ↦[sgS M k s]{q} f)) := by
  have h : (sg M k s).view.set = sgS M k s := View.set_reshape _ _
  unfold owns
  rw [h]
  rfl

theorem sgS_eq (k : Fin 3) (s : Fin 2) : sgS M k s = (segR k s).set.map M.view.emb := View.set_slice _ _
theorem slS_eq (k : Fin 3) : slS M k = (slotR k).set.map M.view.emb := View.set_slice _ _

theorem slot_set (k : Fin 3) : slS M k = sgS M k 0 ∪ sgS M k 1 := by
  rw [slS_eq, sgS_eq, sgS_eq, ← Finset.map_union]
  congr 1
  ext i
  rw [Finset.mem_union]
  constructor
  · intro hi
    rw [← Rect.map_emb_univ, Finset.mem_map] at hi
    obtain ⟨j, -, rfl⟩ := hi
    obtain ⟨s, j', rfl⟩ := half_cover j
    rw [← seg_emb]
    have : (segR k s).emb j' ∈ (segR k s).set := by rw [← Rect.map_emb_univ]; exact Finset.mem_map_of_mem _ (Finset.mem_univ _)
    fin_cases s
    · exact Or.inl this
    · exact Or.inr this
  · rintro (hi | hi)
    all_goals
      rw [← Rect.map_emb_univ, Finset.mem_map] at hi
      obtain ⟨j, -, rfl⟩ := hi
      rw [seg_emb, ← Rect.map_emb_univ]; exact Finset.mem_map_of_mem _ (Finset.mem_univ _)
theorem sgS_disj {k k' : Fin 3} {s s' : Fin 2} (h : (k, s) ≠ (k', s')) : Disjoint (sgS M k s) (sgS M k' s') := by
  rw [sgS_eq, sgS_eq]
  exact (Finset.disjoint_map _).mpr (seg_disj h)
theorem slot_disj (k : Fin 3) : Disjoint (sgS M k 0) (sgS M k 1) :=
  sgS_disj M fun e => absurd (Prod.mk.inj e).2 (by decide)

theorem slot_join (k : Fin 3) (q : PosShare TreeShare) (X Y : Vec F S128x4096 .bf16) :
    (iprop(owns (c : Thread nD τ) (sg M k 0) q X ∗ owns (c : Thread nD τ) (sg M k 1) q Y) : sProp 𝕄)
      ⊢ iprop(∃ f, ⌜sgRd M k 0 f = X ∧ sgRd M k 1 f = Y⌝ ∗ (M.view.loc (c : Thread nD τ) ↦[slS M k]{q} f)) := by
  rw [owns_sg, owns_sg]
  iintro ⟨⟨%f, %hf, H0⟩, ⟨%g, %hg, H1⟩⟩
  ihave H := (pointsTo_join (Val := Elt F) (f := f) (g := g) (ℓ := M.view.loc (c : Thread nD τ)) (slot_disj M k)) $$ [H0 H1]
  · isplitl [H0]; · iexact H0
    iexact H1
  iexists ((sgS M k 1).piecewise g f)
  isplitr
  · ipureintro
    constructor
    · rw [← hf]
      funext i
      refine congrArg (_root_.cast _) (Finset.piecewise_eq_of_notMem _ _ _ (Finset.disjoint_left.mp (slot_disj M k) ?_))
      exact View.emb_mem_set (M.view.slice (segR k 0)) (sq i)
    · rw [← hg]
      funext i
      refine congrArg (_root_.cast _) (Finset.piecewise_eq_of_mem _ _ _ ?_)
      exact View.emb_mem_set (M.view.slice (segR k 1)) (sq i)
  rw [slot_set]; iexact H

theorem slot_split (k : Fin 3) (q : PosShare TreeShare) (f : M.view.ty.Contents (Elt F)) :
    (M.view.loc (c : Thread nD τ) ↦[slS M k]{q} f : sProp 𝕄)
      ⊢ iprop(owns (c : Thread nD τ) (sg M k 0) q (sgRd M k 0 f) ∗ owns (c : Thread nD τ) (sg M k 1) q (sgRd M k 1 f)) := by
  rw [slot_set, owns_sg, owns_sg]
  iintro H
  ihave H' := (pointsTo_union (Val := Elt F) (ℓ := M.view.loc (c : Thread nD τ)) (f := f) (slot_disj M k)).1 $$ H
  icases H' with ⟨H0, H1⟩
  isplitl [H0]
  · iexists f; isplitr; · ipureintro; rfl
    iexact H0
  · iexists f; isplitr; · ipureintro; rfl
    iexact H1

theorem seg_read (k : Fin 3) (s : Fin 2) (f : M.view.ty.Contents (Elt F)) (i : S128x4096.Idx) :
    sgRd M k s f i = M.view.read (Elt F) f ((slotR k).emb ((halfR s).emb (sq i))) := by
  rw [← seg_emb]; rfl

theorem slot_read (k : Fin 3) (f : M.view.ty.Contents (Elt F)) (D : Bool) (o : Dev nD) (h : ∀ s, sgRd M k s f = segX m D o s) :
    M.view.readAt (Elt F) (slotR k).toLoadRect f = slotX m D o := by
  funext j
  obtain ⟨s, j, rfl⟩ := half_cover j
  have := congrFun (h s) (sq.symm j)
  rw [seg_read] at this
  unfold segX at this
  rw [sq.apply_symm_apply] at this
  exact this

end Segs

/-- A whole slot loaded. -/
theorem wp_ldSlot (D : Bool) (k : Fin 3) (q : PosShare TreeShare) (o : Dev nD) (Q : Vec F S1x256x4096 .bf16 → sProp 𝕄) :
    iprop(owns (c : Thread nD τ) (segM D k 0) q (segX m D o 0) ∗ owns (c : Thread nD τ) (segM D k 1) q (segX m D o 1)
        ∗ ((owns (c : Thread nD τ) (segM D k 0) q (segX m D o 0) ∗ owns (c : Thread nD τ) (segM D k 1) q (segX m D o 1)) -∗ Q (slotX m D o)))
      ⊢ WP c (ldSlot (F := F) D k) Q := by
  unfold ldSlot
  simp only [Prog.lift]
  iintro ⟨H0, H1, Hk⟩
  ihave H := (slot_join c (bufM D) k q _ _) $$ [H0 H1]
  · isplitl [H0]; · iexact H0
    iexact H1
  icases H with ⟨%f, %hf, H⟩
  iapply (wp_load 𝒱₀ (c : Thread nD τ) none Set.univ (m := bufM D) (r := (slotR k).toLoadRect) (S := slS (bufM D) k) (by rw [slS_eq]; exact Finset.Subset.refl _)) $$ H
  iintro H
  rw [slot_read m (bufM D) k f D o (fun s => by fin_cases s; exacts [hf.1, hf.2]), wp_ret]; imodintro
  iapply Hk
  ihave H' := (slot_split c (bufM D) k q f) $$ H
  rw [hf.1, hf.2]
  iexact H'

/-- A segment loaded. -/
theorem wp_ldSeg (D : Bool) (k : Fin 3) (s : Fin 2) (q : PosShare TreeShare) (o : Dev nD) (Q : Vec F S1x128x4096 .bf16 → sProp 𝕄) :
    iprop(owns (c : Thread nD τ) (segM D k s) q (segX m D o s)
        ∗ (owns (c : Thread nD τ) (segM D k s) q (segX m D o s) -∗ Q (segL m D o s)))
      ⊢ WP c (ldSeg (F := F) D k s) Q := by
  unfold ldSeg
  simp only [Prog.lift]
  rw [owns_sg c (bufM D) k s q (segX m D o s)]
  iintro ⟨⟨%f, %hf, H⟩, Hk⟩
  iapply (wp_load 𝒱₀ (c : Thread nD τ) none Set.univ (m := bufM D) (r := (segR k s).toLoadRect) (S := sgS (bufM D) k s)
    (by rw [sgS_eq]; exact Finset.Subset.refl _)) $$ H
  iintro H
  have e : (bufM D).view.readAt (Elt F) (segR k s).toLoadRect f = segL m D o s := by
    funext j
    have := congrFun hf (sq.symm j)
    unfold segX sgRd at this
    rw [sq.apply_symm_apply] at this
    exact this
  rw [e, wp_ret]; imodintro
  iapply Hk
  iexists f; isplitr; · ipureintro; exact hf
  iexact H

abbrev bufP (c : Dev nD) (b : Ref sig .tc) (f : b.ty.Contents (Elt F)) : sProp 𝕄 := ((c : Thread nD τ).loc b) ↦{fullShare} f
def anySeg (c : Dev nD) (D : Bool) (k : Fin 3) (s : Fin 2) : sProp 𝕄 :=
  iprop(∃ X : Vec F S128x4096 .bf16, owns (c : Thread nD τ) (segM D k s) fullShare X)

/-- Slot 0 filled with the device's own rows. -/
theorem wp_fill (D : Bool) (Q : PUnit → sProp 𝕄) :
    iprop(bufP c cc0_stg0_0 (xstg m c) ∗ anySeg c D 0 0 ∗ anySeg c D 0 1
        ∗ ((bufP c cc0_stg0_0 (xstg m c) ∗ owns (c : Thread nD τ) (segM D 0 0) fullShare (segX m D c 0)
            ∗ owns (c : Thread nD τ) (segM D 0 1) fullShare (segX m D c 1)) -∗ Q ⟨⟩))
      ⊢ WP c (fill (F := F) D) Q := by
  unfold fill anySeg
  simp only [Prog.lift, Prog.bind_op, Prog.bind_ret]
  iintro ⟨Hx, ⟨%X, H0⟩, ⟨%Y, H1⟩, Hk⟩
  ihave H := (slot_join c (bufM D) 0 fullShare _ _) $$ [H0 H1]
  · isplitl [H0]; · iexact H0
    iexact H1
  icases H with ⟨%f, %hf, H⟩
  iapply (wp_load 𝒱₀ (c : Thread nD τ) none Set.univ (m := xM) (Finset.subset_univ _)) $$ Hx
  iintro Hx
  iapply (wp_load 𝒱₀ (c : Thread nD τ) none Set.univ (m := bufM D) (r := (slotR 0).toLoadRect) (S := slS (bufM D) 0) (by rw [slS_eq]; exact Finset.Subset.refl _)) $$ H
  iintro H
  iapply (wp_store 𝒱₀ (c : Thread nD τ) none Set.univ (m := bufM D) (r := slotR 0) (Mk := Finset.univ) (S := slS (bufM D) 0) (Finset.Subset.refl _)) $$ H
  iintro H
  rw [wp_ret]; imodintro
  iapply Hk
  isplitl [Hx]; · iexact Hx
  ihave H' := (slot_split c (bufM D) 0 fullShare _) $$ H
  have e (s : Fin 2) : sgRd (bufM D) 0 s
      (((bufM D).access (slotR 0) : View sig .tc _ _ _).write (Elt F) f (k0_pay2 (xM.view.readAt (Elt F) (xhR D).toLoadRect (xstg m c))) Finset.univ)
      = segX m D c s := by
    funext i
    rw [seg_read]
    exact View.read_slice_write_emb (slotR 0) f _ (Finset.mem_univ _)
  rw [e, e]
  iexact H'

/-! ## The other buffers -/

theorem hz2 : (![0, 0] : Fin 2 → Nat) = fun _ => 0 := funext fun a => by fin_cases a <;> rfl

theorem wp_copyW (Q : PUnit → sProp 𝕄) :
    iprop(bufP c cc0_stg1_0 (wstg m c) ∗ (∃ f, bufP c cc0_scratch6 f)
        ∗ ((bufP c cc0_stg1_0 (wstg m c) ∗ bufP c cc0_scratch6 (wX m c)) -∗ Q ⟨⟩))
      ⊢ WP c (copyW (F := F)) Q := by
  unfold copyW
  simp only [Prog.lift, Prog.bind_op, Prog.bind_ret]
  iintro ⟨Hw, ⟨%f, Hb⟩, Hk⟩
  iapply (wp_load 𝒱₀ (c : Thread nD τ) none Set.univ (m := wM) (Finset.subset_univ _)) $$ Hw
  iintro Hw
  iapply (wp_load 𝒱₀ (c : Thread nD τ) none Set.univ (m := wbM) (Finset.subset_univ _)) $$ Hb
  iintro Hb
  iapply (wp_store 𝒱₀ (c : Thread nD τ) none Set.univ (m := wbM) (r := wR) (Mk := Finset.univ) (Finset.subset_univ _)) $$ Hb
  iintro Hb
  rw [wp_ret]; imodintro
  iapply Hk
  isplitl [Hw]; · iexact Hw
  have e : ((wbM.access wR : View sig .tc _ _ _).write (Elt F) f (k0_pay4 (wM.view.readAt (Elt F) wR.toLoadRect (wstg m c))) Finset.univ) = wX m c := by
    have e1 : (wM.view.readAt (Elt F) wR.toLoadRect (wstg m c)) = wstg m c := Memref.readAt_unit_zero (Elt F) cc0_stg1_0 hz2 _ _
    rw [e1]
    exact Memref.write_access_unit_zero_univ (Elt F) cc0_scratch6 hz2 _ f _
  rw [e]
  iexact Hb

theorem wp_ldWb (Q : Vec F S4096x256 .bf16 → sProp 𝕄) :
    iprop(bufP c cc0_scratch6 (wX m c) ∗ (bufP c cc0_scratch6 (wX m c) -∗ Q (wX m c)))
      ⊢ WP c (ldWb (F := F)) Q := by
  unfold ldWb
  simp only [Prog.lift]
  iintro ⟨Hb, Hk⟩
  iapply (wp_load 𝒱₀ (c : Thread nD τ) none Set.univ (m := wbM) (Finset.subset_univ _)) $$ Hb
  iintro Hb
  have e : (wbM.view.readAt (Elt F) wR.toLoadRect (wX m c)) = wX m c := Memref.readAt_unit_zero (Elt F) cc0_scratch6 hz2 _ _
  rw [e, wp_ret]; imodintro
  iapply Hk; iexact Hb

/-- The result buffer after the stores `l`. -/
def outP (c : Dev nD) (l : List (Wr F)) : sProp 𝕄 := iprop(∃ f, bufP c cc0_stg2_0 (stage l f))

theorem wp_st (r : Rect S4096x256) (v : Vec F r.shape .f32) {hl : oM.view.LoadsAt r.toLoadRect}
    {hx : (oM.access r : View sig .tc _ _ _).Stores Finset.univ} {hm : (Finset.univ : Finset r.shape.Idx) = Finset.univ ∨ ∀ a, r.stride a = 1}
    (l : List (Wr F)) (Q : PUnit → sProp 𝕄) :
    iprop(outP c l ∗ (outP c (l ++ [⟨r, v⟩]) -∗ Q ⟨⟩))
      ⊢ WP c (do let _ ← Prog.lift (.load oM r.toLoadRect hl); Prog.lift (.store oM r v Finset.univ hx hm)) Q := by
  unfold outP
  simp only [Prog.lift, Prog.bind_op, Prog.bind_ret]
  iintro ⟨⟨%f, Ho⟩, Hk⟩
  iapply (wp_load 𝒱₀ (c : Thread nD τ) none Set.univ (m := oM) (Finset.subset_univ _)) $$ Ho
  iintro Ho
  iapply (wp_store 𝒱₀ (c : Thread nD τ) none Set.univ (m := oM) (r := r) (Mk := Finset.univ) (Finset.subset_univ _)) $$ Ho
  iintro Ho
  rw [wp_ret]; imodintro
  iapply Hk
  iexists f
  rw [stage_append]; unfold ap
  iexact Ho

theorem wp_stOwn (D : Bool) (v : FVec F S256x256 .f32) (l : List (Wr F)) (Q : PUnit → sProp 𝕄) :
    iprop(outP c l ∗ (outP c (l ++ [⟨ownR D c, v⟩]) -∗ Q ⟨⟩)) ⊢ WP c (stOwn (F := F) D c v) Q := wp_st c (ownR D c) v l Q
theorem wp_stHop (D : Bool) (h : Fin 6) (v : FVec F S256x256 .f32) (l : List (Wr F)) (Q : PUnit → sProp 𝕄) :
    iprop(outP c l ∗ (outP c (l ++ [⟨hopR D h c, v⟩]) -∗ Q ⟨⟩)) ⊢ WP c (stHop (F := F) D h c v) Q := wp_st c (hopR D h c) v l Q
theorem wp_stLast (D : Bool) (s : Fin 2) (v : FVec F S128x256 .f32) (l : List (Wr F)) (Q : PUnit → sProp 𝕄) :
    iprop(outP c l ∗ (outP c (l ++ [⟨lastR D s c, v⟩]) -∗ Q ⟨⟩)) ⊢ WP c (stLast (F := F) D s c v) Q := wp_st c (lastR D s c) v l Q

end Cert.KernelIdeal.Ring
-- ==== Proof.Chan.lean ====
/-
  One channel of the ring (a direction and a segment) through one hop: the wait for the source, the wait for the arrival, the
  next copy.
-/
module

public import proofs.«01_k».proof.Proof.Buf

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The three cells of a rotation -/

/-- The positions of three cells used in turn, before turn `h`. -/
def pos3 (f : Fin 3 → GSem nD τ sig) (h : ℕ) : sProp 𝕄 := iprop(pos (f 0) ((h + 2) / 3) ∗ pos (f 1) ((h + 1) / 3) ∗ pos (f 2) (h / 3))

theorem pos3_take (f : Fin 3 → GSem nD τ sig) (h : ℕ) :
    (pos3 f h : sProp 𝕄) ⊢ iprop(pos (f (sl h)) (h / 3) ∗ (pos (f (sl h)) (h / 3 + 1) -∗ pos3 f (h + 1))) := by
  unfold pos3
  have h3 : h % 3 = 0 ∨ h % 3 = 1 ∨ h % 3 = 2 := by omega
  rcases h3 with e | e | e
  · rw [show sl h = 0 from Fin.ext e, show (h + 2) / 3 = h / 3 by omega, show (h + 1 + 2) / 3 = h / 3 + 1 by omega,
      show (h + 1) / 3 = h / 3 by omega]
    iintro ⟨H0, H1, H2⟩
    isplitl [H0]; · iexact H0
    iintro H0
    isplitl [H0]; · iexact H0
    isplitl [H1] <;> iassumption
  · rw [show sl h = 1 from Fin.ext e, show (h + 2) / 3 = h / 3 + 1 by omega, show (h + 1 + 2) / 3 = h / 3 + 1 by omega,
      show (h + 1) / 3 = h / 3 by omega]
    iintro ⟨H0, H1, H2⟩
    isplitl [H1]; · iexact H1
    iintro H1
    isplitl [H0]; · iexact H0
    isplitl [H1] <;> iassumption
  · rw [show sl h = 2 from Fin.ext e, show (h + 2) / 3 = h / 3 + 1 by omega, show (h + 1 + 2) / 3 = h / 3 + 1 by omega,
      show (h + 1) / 3 = h / 3 + 1 by omega]
    iintro ⟨H0, H1, H2⟩
    isplitl [H2]; · iexact H2
    iintro H2
    isplitl [H0]; · iexact H0
    isplitl [H1] <;> iassumption

theorem pos_reached (g : GSem nD τ sig) (R : ℕ) : (pos g R : sProp 𝕄) ⊢ iprop(pos g R ∗ reached ER g R) := by
  unfold pos
  iintro ⟨H, #Hr⟩
  isplitl [H]
  · isplitl [H]; · iexact H
    iexact Hr
  iexact Hr

/-- Turn `h` is open for its cell, -/
theorem pos3_this (f : Fin 3 → GSem nD τ sig) (h : ℕ) : (pos3 f h : sProp 𝕄) ⊢ iprop(pos3 f h ∗ reached ER (f (sl h)) (h / 3)) := by
  have h3 : h % 3 = 0 ∨ h % 3 = 1 ∨ h % 3 = 2 := by omega
  unfold pos3
  iintro ⟨H0, H1, H2⟩
  ihave H0 := (pos_reached _ _) $$ H0
  ihave H1 := (pos_reached _ _) $$ H1
  ihave H2 := (pos_reached _ _) $$ H2
  icases H0 with ⟨H0, #R0⟩
  icases H1 with ⟨H1, #R1⟩
  icases H2 with ⟨H2, #R2⟩
  isplitl [H0 H1 H2]
  · isplitl [H0]; · iexact H0
    isplitl [H1] <;> iassumption
  rcases h3 with e | e | e
  · rw [show sl h = 0 from Fin.ext e, show (h + 2) / 3 = h / 3 by omega]; iexact R0
  · rw [show sl h = 1 from Fin.ext e, show (h + 1) / 3 = h / 3 by omega]; iexact R1
  · rw [show sl h = 2 from Fin.ext e]; iexact R2
/-- and so is the turn after it. -/
theorem pos3_next (f : Fin 3 → GSem nD τ sig) (h : ℕ) : (pos3 f h : sProp 𝕄) ⊢ iprop(pos3 f h ∗ reached ER (f (sl (h + 1))) ((h + 1) / 3)) := by
  have h3 : h % 3 = 0 ∨ h % 3 = 1 ∨ h % 3 = 2 := by omega
  unfold pos3
  iintro ⟨H0, H1, H2⟩
  ihave H0 := (pos_reached _ _) $$ H0
  ihave H1 := (pos_reached _ _) $$ H1
  ihave H2 := (pos_reached _ _) $$ H2
  icases H0 with ⟨H0, #R0⟩
  icases H1 with ⟨H1, #R1⟩
  icases H2 with ⟨H2, #R2⟩
  isplitl [H0 H1 H2]
  · isplitl [H0]; · iexact H0
    isplitl [H1] <;> iassumption
  rcases h3 with e | e | e
  · rw [show sl (h + 1) = 1 from Fin.ext (by show (h + 1) % 3 = 1; omega)]; iexact R1
  · rw [show sl (h + 1) = 2 from Fin.ext (by show (h + 1) % 3 = 2; omega), show (h + 1) / 3 = h / 3 by omega]; iexact R2
  · rw [show sl (h + 1) = 0 from Fin.ext (by show (h + 1) % 3 = 0; omega), show (h + 1) / 3 = (h + 2) / 3 by omega]; iexact R0

abbrev sF (c : Dev nD) (D : Bool) (s : Fin 2) : Fin 3 → GSem nD τ sig := fun k => dmaC c (sndSem D k s)
def rF (c : Dev nD) (D : Bool) (s : Fin 2) : Fin 3 → GSem nD τ sig := fun k => dmaC c (rcvSem D (sl (k.val + 1)) s)
theorem rF_sl (c : Dev nD) (D : Bool) (s : Fin 2) (h : ℕ) : rF c D s (sl h) = dmaC c (rcvSem D (sl (h + 1)) s) := by
  unfold rF
  rw [show sl ((sl h).val + 1) = sl (h + 1) from Fin.ext (by show (h % 3 + 1) % 3 = (h + 1) % 3; omega)]
theorem sl_add3 (h : ℕ) : sl (h + 3) = sl h := Fin.ext (by show (h + 3) % 3 = h % 3; omega)

/-! ## A channel -/

variable (K : Dev nD × Fin 39 → ℕ) (c : Dev nD)

/-- The copy of hop `h` under way; -/
def ChA (D : Bool) (s : Fin 2) (h : ℕ) : sProp 𝕄 :=
  iprop(owns (c : Thread nD τ) (segM D (sl h) s) fullShare.left (segX m D (orig D h c) s)
    ∗ cred (tallyAt (dmaC c (sndSem D (sl h) s)) 0 NS) ∗ pos3 (sF c D s) h ∗ pos3 (rF c D s) h)
/-- its source back; -/
def ChB (D : Bool) (s : Fin 2) (h : ℕ) : sProp 𝕄 :=
  iprop(anySeg c D (sl h) s ∗ pos3 (sF c D s) (h + 1) ∗ pos3 (rF c D s) h)
/-- the other's copy landed. -/
def ChC (D : Bool) (s : Fin 2) (h : ℕ) : sProp 𝕄 :=
  iprop(anySeg c D (sl h) s ∗ owns (c : Thread nD τ) (segM D (sl (h + 1)) s) fullShare (segX m D (orig D (h + 1) c) s)
    ∗ pos3 (sF c D s) (h + 1) ∗ pos3 (rF c D s) (h + 1))

theorem wp_wSend_ch (h : Fin 7) (D : Bool) (s : Fin 2) (l : List Pay) (hl : ∀ p ∈ l, 0 < p.lev) (Q : PUnit → sProp 𝕄) :
    iprop(env m K ∗ ChA m c D s h.val ∗ Ow c l ∗ ((ChB c D s h.val ∗ Ow c l) -∗ Q ⟨⟩))
      ⊢ WP c (wSend (F := F) h D s) Q := by
  unfold ChA ChB
  iintro ⟨#HE, ⟨Hl, Hc, Hps, Hpr⟩, HO, Hk⟩
  ihave Hps := (pos3_take _ _) $$ Hps
  icases Hps with ⟨Hp, Hps⟩
  iapply (wp_wSend m K c h D s l hl Q)
  isplitr; · iexact HE
  isplitl [Hc]; · iexact Hc
  isplitl [Hp]; · iexact Hp
  isplitl [HO]; · iexact HO
  iintro ⟨Hp, Hr, HO⟩
  iapply Hk
  isplitr [HO]
  · isplitl [Hl Hr]
    · unfold anySeg sendPay
      iexists _
      iapply (owns_halves (c : Thread nD τ) (segM D (sl h.val) s) fullShare (segX m D (orig D h.val c) s)).2
      isplitl [Hl]; · iexact Hl
      iexact Hr
    isplitl [Hp Hps]
    · iapply Hps; iexact Hp
    iexact Hpr
  iexact HO

theorem wp_wRecv_ch (h : Fin 7) (D : Bool) (s : Fin 2) (l : List Pay) (hl : ∀ p ∈ l, h.val + 2 < p.lev) (Q : PUnit → sProp 𝕄) :
    iprop(env m K ∗ ChB c D s h.val ∗ crd c (.hop h D s) ∗ Ow c l
        ∗ ((ChC m c D s h.val ∗ permIf (fr D c) (!D) s (h.val + 1) ∗ ride D s (orig D (h.val + 1) c) h.val ∗ Ow c l) -∗ Q ⟨⟩))
      ⊢ WP c (wRecv (F := F) h D s) Q := by
  unfold ChB ChC
  iintro ⟨#HE, ⟨Hl, Hps, Hpr⟩, Hc, HO, Hk⟩
  ihave Hpr := (pos3_take _ _) $$ Hpr
  rw [rF_sl]
  icases Hpr with ⟨Hp, Hpr⟩
  iapply (wp_wRecv m K c h D s l hl Q)
  isplitr; · iexact HE
  isplitl [Hc]; · iexact Hc
  isplitl [Hp]; · iexact Hp
  isplitl [HO]; · iexact HO
  iintro ⟨Hp, Hr, HO⟩
  iapply Hk
  unfold recvPay
  icases Hr with ⟨Hr, Hperm, Hride⟩
  isplitl [Hl Hr Hps Hp Hpr]
  · isplitl [Hl]; · iexact Hl
    isplitl [Hr]; · iexact Hr
    isplitl [Hps]; · iexact Hps
    iapply Hpr; iexact Hp
  isplitl [Hperm]; · iexact Hperm
  isplitl [Hride]; · iexact Hride
  iexact HO

theorem wp_wRecv_cs (h : Fin 6) (D : Bool) (s : Fin 2) (l : List Pay) (hl : ∀ p ∈ l, h.val + 2 < p.lev) (Q : PUnit → sProp 𝕄) :
    iprop(env m K ∗ ChB c D s h.val ∗ crd c (.hop h.castSucc D s) ∗ Ow c l
        ∗ ((ChC m c D s h.val ∗ permIf (fr D c) (!D) s (h.val + 1) ∗ ride D s (orig D (h.val + 1) c) h.val ∗ Ow c l) -∗ Q ⟨⟩))
      ⊢ WP c (wRecv (F := F) h.castSucc D s) Q :=
  wp_wRecv_ch m K c h.castSucc D s l hl Q

/-- What is left of a channel's buffer after the last copies. -/
def left (D : Bool) (s : Fin 2) (n : ℕ) : sProp 𝕄 := if n = 6 then anySeg c D 2 s else iprop(emp)

/-- A slot done with is handed to the next sender but one, unless there is none. -/
theorem deposit (D : Bool) (s : Fin 2) (h : Fin 6) :
    iprop(anySeg c D (sl h.val) s ∗ reached ER (rF c D s (sl (h.val + 2))) ((h.val + 2) / 3))
      ⊢ (iprop(permIf c D s (h.val + 2) ∗ left c D s (h.val + 1)) : sProp 𝕄) := by
  unfold permIf left perm
  rw [rF_sl]
  by_cases h5 : h.val = 5
  · rw [if_neg (show ¬ h.val + 2 ≤ 6 by omega), if_pos (show h.val + 1 = 6 by omega), show sl h.val = 2 from Fin.ext (by show h.val % 3 = 2; omega)]
    iintro ⟨H, -⟩
    isplitr; · iempintro
    iexact H
  · rw [if_pos (show h.val + 2 ≤ 6 by omega), if_neg (show ¬ h.val + 1 = 6 by omega), show sl (h.val + 2 + 1) = sl h.val from sl_add3 h.val]
    unfold anySeg
    iintro ⟨H, Hr⟩
    isplitl
    · isplitl [H]; · iexact H
      iexact Hr
    iempintro

/-- The row that travels with the clockwise copies of the first segment, picked off. -/
def rowIf (D : Bool) (s : Fin 2) (h : ℕ) : sProp 𝕄 := if D = true ∧ s = 0 then rowP (orig true (h + 1) c) c else iprop(emp)
theorem ride_step (D : Bool) (s : Fin 2) (h : ℕ) (hh : h ≤ 6) :
    (ride D s (orig D (h + 1) c) h : sProp 𝕄) ⊢ iprop(ride D s (orig D (h + 1) c) (h + 1) ∗ rowIf c D s h) := by
  unfold ride rowIf
  by_cases e : D = true ∧ s = 0
  · rw [if_pos e, if_pos e, if_pos e, e.1, show 7 - h = (6 - h) + 1 by omega, show 7 - (h + 1) = 6 - h by omega]
    rw [gath, show 7 - (6 - h) = h + 1 by omega, dest_orig]
    iintro ⟨H1, H2⟩
    isplitl [H2]; · iexact H2
    iexact H1
  · rw [if_neg e, if_neg e, if_neg e]
    iintro -
    isplitr <;> iempintro

/-- The copy of hop `h + 1`, the other direction's slot handed along. -/
theorem wp_send_ch (h : Fin 6) (D : Bool) (s : Fin 2) (l : List Pay) (Q : PUnit → sProp 𝕄) :
    iprop(env m K ∗ owns (c : Thread nD τ) (segM D (sl (h.val + 1)) s) fullShare (segX m D (orig D (h.val + 1) c) s)
        ∗ pos3 (sF c D s) (h.val + 1) ∗ pos3 (rF c D s) (h.val + 1)
        ∗ permIf (nxt D c) D s (h.val + 1) ∗ permIf c (!D) s (h.val + 2) ∗ ride D s (orig D (h.val + 1) c) (h.val + 1)
        ∗ Ow c (.hop h.succ D s :: l) ∗ toks c (.hop h.succ D s :: l)
        ∗ ((ChA m c D s (h.val + 1) ∗ Ow c l ∗ toks c l) -∗ Q ⟨⟩))
      ⊢ WP c (sendOp (F := F) h.succ D s c) Q := by
  unfold ChA
  rw [show permIf (F := F) (nxt D c) D s (h.val + 1) = perm (nxt D c) D s (h.val + 1) from if_pos (by omega)]
  iintro ⟨#HE, Hsrc, Hps, Hpr, Hperm, Hdep, Hride, HO, HT, Hk⟩
  ihave Hps := (pos3_this _ _) $$ Hps
  icases Hps with ⟨Hps, #Hr⟩
  iapply (wp_sendOp m K c h.succ D s l Q)
  isplitr; · iexact HE
  isplitl [Hsrc]; · iexact Hsrc
  isplitl [Hperm]; · iexact Hperm
  isplitl [Hdep]; · iexact Hdep
  isplitl [Hride]; · iexact Hride
  isplitr; · iexact Hr
  isplitl [HO]; · iexact HO
  isplitl [HT]; · iexact HT
  iintro ⟨Hl, Hc, HO, HT⟩
  iapply Hk
  isplitr [HO HT]
  · isplitl [Hl]; · iexact Hl
    isplitl [Hc]; · iexact Hc
    isplitl [Hps]; · iexact Hps
    iexact Hpr
  isplitl [HO]; · iexact HO
  iexact HT

/-- One segment's arrivals of hop `h`, both directions, sent on. -/
theorem wp_turn (h : Fin 6) (s : Fin 2) (l : List Pay) (hl : ∀ p ∈ l, h.val + 2 < p.lev) (Q : PUnit → sProp 𝕄) :
    iprop(env m K ∗ ChB c true s h.val ∗ ChB c false s h.val ∗ crd c (.hop h.castSucc true s) ∗ crd c (.hop h.castSucc false s)
        ∗ Ow c (.hop h.succ true s :: .hop h.succ false s :: l) ∗ toks c (.hop h.succ true s :: .hop h.succ false s :: l)
        ∗ ((ChA m c true s (h.val + 1) ∗ ChA m c false s (h.val + 1) ∗ left c true s (h.val + 1) ∗ left c false s (h.val + 1)
            ∗ rowIf c true s h.val ∗ Ow c l ∗ toks c l) -∗ Q ⟨⟩))
      ⊢ WP c (turn (F := F) h s c) Q := by
  have hl' : ∀ p ∈ (.hop h.succ true s :: .hop h.succ false s :: l : List Pay), h.val + 2 < p.lev := by
    intro p hp
    rcases List.mem_cons.mp hp with rfl | hp
    · show h.val + 2 < h.val + 1 + 2; omega
    rcases List.mem_cons.mp hp with rfl | hp
    · show h.val + 2 < h.val + 1 + 2; omega
    exact hl p hp
  unfold turn
  iintro ⟨#HE, HT, HF, HcT, HcF, HO, Htk, Hk⟩
  iapply (WP_bind c _ _ _)
  iapply (wp_wRecv_cs m K c h true s _ hl')
  isplitr; · iexact HE
  isplitl [HT]; · iexact HT
  isplitl [HcT]; · iexact HcT
  isplitl [HO]; · iexact HO
  iintro ⟨HT, HpF, HrT, HO⟩
  iapply (WP_bind c _ _ _)
  iapply (wp_wRecv_cs m K c h false s _ hl')
  isplitr; · iexact HE
  isplitl [HF]; · iexact HF
  isplitl [HcF]; · iexact HcF
  isplitl [HO]; · iexact HO
  iintro ⟨HF, HpT, HrF, HO⟩
  unfold ChC
  icases HT with ⟨HTo, HTn, HTs, HTr⟩
  icases HF with ⟨HFo, HFn, HFs, HFr⟩
  ihave HTr := (pos3_next _ _) $$ HTr
  icases HTr with ⟨HTr, #RT⟩
  ihave HFr := (pos3_next _ _) $$ HFr
  icases HFr with ⟨HFr, #RF⟩
  ihave HdT := (deposit c true s h) $$ [HTo]
  · isplitl; · iexact HTo
    iexact RT
  icases HdT with ⟨HdT, HlT⟩
  ihave HdF := (deposit c false s h) $$ [HFo]
  · isplitl; · iexact HFo
    iexact RF
  icases HdF with ⟨HdF, HlF⟩
  ihave HrT := (ride_step c true s h.val (by omega)) $$ HrT
  icases HrT with ⟨HrT, HrowT⟩
  ihave HrF := (ride_step c false s h.val (by omega)) $$ HrF
  icases HrF with ⟨HrF, -⟩
  iapply (WP_bind c _ _ _)
  iapply (wp_send_ch m K c h true s)
  isplitr; · iexact HE
  isplitl [HTn]; · iexact HTn
  isplitl [HTs]; · iexact HTs
  isplitl [HTr]; · iexact HTr
  isplitl [HpT]; · iexact HpT
  isplitl [HdF]; · iexact HdF
  isplitl [HrT]; · iexact HrT
  isplitl [HO]; · iexact HO
  isplitl [Htk]; · iexact Htk
  iintro ⟨HT, HO, Htk⟩
  iapply (wp_send_ch m K c h false s)
  isplitr; · iexact HE
  isplitl [HFn]; · iexact HFn
  isplitl [HFs]; · iexact HFs
  isplitl [HFr]; · iexact HFr
  isplitl [HpF]; · iexact HpF
  isplitl [HdT]; · iexact HdT
  isplitl [HrF]; · iexact HrF
  isplitl [HO]; · iexact HO
  isplitl [Htk]; · iexact Htk
  iintro ⟨HF, HO, Htk⟩
  iapply Hk
  isplitl [HT]; · iexact HT
  isplitl [HF]; · iexact HF
  isplitl [HlT]; · iexact HlT
  isplitl [HlF]; · iexact HlF
  isplitl [HrowT]; · iexact HrowT
  isplitl [HO]; · iexact HO
  iexact Htk

end Cert.KernelIdeal.Ring
-- ==== Proof.Iter.lean ====
/-
  One hop of all four channels: the sources back, the arrivals sent on, the blocks they brought multiplied.
-/
module

public import proofs.«01_k».proof.Proof.Chan

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Fin 39 → ℕ) (c : Dev nD)

/-- The four channels of a hop under way. -/
def Ch4 (h : ℕ) : sProp 𝕄 := iprop(ChA m c true 0 h ∗ ChA m c false 0 h ∗ ChA m c true 1 h ∗ ChA m c false 1 h)
def Cb4 (h : ℕ) : sProp 𝕄 := iprop(ChB c true 0 h ∗ ChB c false 0 h ∗ ChB c true 1 h ∗ ChB c false 1 h)
def Lf4 (h : ℕ) : sProp 𝕄 := iprop(left c true 0 h ∗ left c false 0 h ∗ left c true 1 h ∗ left c false 1 h)

/-- The rows of the gathered maxima device `c` may write, by the hops so far. -/
def acc : ℕ → sProp 𝕄
  | 0 => iprop(emp)
  | h + 1 => iprop(acc h ∗ rowP (orig true (h + 1) c) c)

theorem wp_wSends (h : Fin 7) (l : List Pay) (hl : ∀ p ∈ l, 0 < p.lev) (Q : PUnit → sProp 𝕄) :
    iprop(env m K ∗ Ch4 m c h.val ∗ Ow c l ∗ ((Cb4 c h.val ∗ Ow c l) -∗ Q ⟨⟩)) ⊢ WP c (wSends (F := F) h) Q := by
  unfold wSends Ch4 Cb4
  iintro ⟨#HE, ⟨H1, H2, H3, H4⟩, HO, Hk⟩
  iapply (WP_bind c _ _ _)
  iapply (wp_wSend_ch m K c h true 0 l hl)
  isplitr; · iexact HE
  isplitl [H1]; · iexact H1
  isplitl [HO]; · iexact HO
  iintro ⟨H1, HO⟩
  iapply (WP_bind c _ _ _)
  iapply (wp_wSend_ch m K c h false 0 l hl)
  isplitr; · iexact HE
  isplitl [H2]; · iexact H2
  isplitl [HO]; · iexact HO
  iintro ⟨H2, HO⟩
  iapply (WP_bind c _ _ _)
  iapply (wp_wSend_ch m K c h true 1 l hl)
  isplitr; · iexact HE
  isplitl [H3]; · iexact H3
  isplitl [HO]; · iexact HO
  iintro ⟨H3, HO⟩
  iapply (wp_wSend_ch m K c h false 1 l hl)
  isplitr; · iexact HE
  isplitl [H4]; · iexact H4
  isplitl [HO]; · iexact HO
  iintro ⟨H4, HO⟩
  iapply Hk
  isplitr [HO]
  · isplitl [H1]; · iexact H1
    isplitl [H2]; · iexact H2
    isplitl [H3]; · iexact H3
    iexact H4
  iexact HO

theorem wp_wSends_cs (h : Fin 6) (l : List Pay) (hl : ∀ p ∈ l, 0 < p.lev) (Q : PUnit → sProp 𝕄) :
    iprop(env m K ∗ Ch4 m c h.val ∗ Ow c l ∗ ((Cb4 c h.val ∗ Ow c l) -∗ Q ⟨⟩)) ⊢ WP c (wSends (F := F) h.castSucc) Q :=
  wp_wSends m K c h.castSucc l hl Q

/-- Loading the slot a hop is sent from while the copies read it too. -/
theorem wp_ldSlot_ch (D : Bool) (h : ℕ) (Q : Vec F S1x256x4096 .bf16 → sProp 𝕄) :
    iprop(ChA m c D 0 h ∗ ChA m c D 1 h ∗ ((ChA m c D 0 h ∗ ChA m c D 1 h) -∗ Q (slotX m D (orig D h c))))
      ⊢ WP c (ldSlot (F := F) D (sl h)) Q := by
  unfold ChA
  iintro ⟨⟨H0, R0⟩, ⟨H1, R1⟩, Hk⟩
  iapply (wp_ldSlot m c D (sl h) fullShare.left (orig D h c) Q)
  isplitl [H0]; · iexact H0
  isplitl [H1]; · iexact H1
  iintro ⟨H0, H1⟩
  iapply Hk
  isplitl [H0 R0]
  · isplitl [H0]; · iexact H0
    iexact R0
  · isplitl [H1]; · iexact H1
    iexact R1

theorem wp_ldSlots (h : ℕ) (Q : Vec F S1x256x4096 .bf16 → Vec F S4096x256 .bf16 → Vec F S1x256x4096 .bf16 → Vec F S4096x256 .bf16 → sProp 𝕄)
    {α : Type} (k : Vec F S1x256x4096 .bf16 → Vec F S4096x256 .bf16 → Vec F S1x256x4096 .bf16 → Vec F S4096x256 .bf16 → P F α) (R : α → sProp 𝕄) :
    iprop(Ch4 m c h ∗ bufP c cc0_scratch6 (wX m c)
        ∗ ((Ch4 m c h ∗ bufP c cc0_scratch6 (wX m c)) -∗ WP c (k (slotX m true (orig true h c)) (wX m c) (slotX m false (orig false h c)) (wX m c)) R))
      ⊢ WP c (do
          let a ← ldSlot (F := F) true (sl h)
          let w ← ldWb
          let b ← ldSlot false (sl h)
          let w' ← ldWb
          k a w b w') R := by
  unfold Ch4
  iintro ⟨⟨H1, H2, H3, H4⟩, Hw, Hk⟩
  iapply (WP_bind c _ _ _)
  iapply (wp_ldSlot_ch m c true h)
  isplitl [H1]; · iexact H1
  isplitl [H3]; · iexact H3
  iintro ⟨H1, H3⟩
  iapply (WP_bind c _ _ _)
  iapply (wp_ldWb m c)
  isplitl [Hw]; · iexact Hw
  iintro Hw
  iapply (WP_bind c _ _ _)
  iapply (wp_ldSlot_ch m c false h)
  isplitl [H2]; · iexact H2
  isplitl [H4]; · iexact H4
  iintro ⟨H2, H4⟩
  iapply (WP_bind c _ _ _)
  iapply (wp_ldWb m c)
  isplitl [Hw]; · iexact Hw
  iintro Hw
  iapply Hk
  isplitr [Hw]
  · isplitl [H1]; · iexact H1
    isplitl [H2]; · iexact H2
    isplitl [H3]; · iexact H3
    iexact H4
  iexact Hw

/-- The blocks of one hop multiplied and stored. -/
theorem wp_dots (h : Fin 6) (Q : F .f32 → sProp 𝕄) :
    iprop(Ch4 m c (h.val + 1) ∗ bufP c cc0_scratch6 (wX m c) ∗ outP c (wl m c h.val)
        ∗ ((Ch4 m c (h.val + 1) ∗ bufP c cc0_scratch6 (wX m c) ∗ outP c (wl m c (h.val + 1))) -∗ Q (mv m c (h.val + 1))))
      ⊢ WP c (dots h c (mv m c h.val)) Q := by
  rw [wl_succ, show mv m c (h.val + 1) = k0_pay16 (mv m c h.val) (slotX m true (orig true (h.val + 1) c)) (wX m c)
    (slotX m false (orig false (h.val + 1) c)) (wX m c) from rfl]
  unfold dots
  iintro ⟨H4, Hw, Ho, Hk⟩
  iapply (wp_ldSlots m c (h.val + 1) (fun _ _ _ _ => iprop(emp)))
  isplitl [H4]; · iexact H4
  isplitl [Hw]; · iexact Hw
  iintro ⟨H4, Hw⟩
  iapply (WP_bind c _ _ _)
  iapply (wp_stHop c true h)
  isplitl [Ho]; · iexact Ho
  iintro Ho
  iapply (WP_bind c _ _ _)
  iapply (wp_stHop c false h)
  isplitl [Ho]; · iexact Ho
  iintro Ho
  iapply (WP_pure c _ _)
  iapply Hk
  isplitl [H4]; · iexact H4
  isplitl [Hw]; · iexact Hw
  iexact Ho

/-- The own blocks. -/
theorem wp_own (Q : F .f32 → sProp 𝕄) :
    iprop(Ch4 m c 0 ∗ bufP c cc0_scratch6 (wX m c) ∗ outP c []
        ∗ ((Ch4 m c 0 ∗ bufP c cc0_scratch6 (wX m c) ∗ outP c (wl m c 0)) -∗ Q (mv m c 0)))
      ⊢ WP c (own (F := F) c) Q := by
  have h := wp_ldSlots m c 0 (fun _ _ _ _ => iprop(emp)) (fun a w b w' => do
    stOwn (F := F) true c (k0_pay5 a w)
    stOwn false c (k0_pay6 b w')
    pure (k0_pay8 (k0_pay6 b w') (k0_pay7 a w))) Q
  rw [orig_zero, orig_zero] at h
  rw [show mv m c 0 = k0_pay8 (k0_pay6 (slotX m false c) (wX m c)) (k0_pay7 (slotX m true c) (wX m c)) from rfl]
  unfold own
  iintro ⟨H4, Hw, Ho, Hk⟩
  iapply h
  isplitl [H4]; · iexact H4
  isplitl [Hw]; · iexact Hw
  iintro ⟨H4, Hw⟩
  iapply (WP_bind c _ _ _)
  iapply (wp_stOwn c true)
  isplitl [Ho]; · iexact Ho
  iintro Ho
  iapply (WP_bind c _ _ _)
  iapply (wp_stOwn c false)
  isplitl [Ho]; · iexact Ho
  iintro Ho
  iapply (WP_pure c _ _)
  iapply Hk
  isplitl [H4]; · iexact H4
  isplitl [Hw]; · iexact Hw
  iexact Ho

/-- What device `c` holds while hop `h` is under way. -/
def St (h : ℕ) : sProp 𝕄 :=
  iprop(Ch4 m c h ∗ Lf4 c h ∗ acc c h ∗ Ow c (rest (h + 1)) ∗ toks c (rest (h + 1)) ∗ crds c (rest h)
    ∗ bufP c cc0_scratch6 (wX m c) ∗ outP c (wl m c h))

theorem rest_succ (h : Fin 6) : rest (h.val + 1)
    = .hop h.succ true 0 :: .hop h.succ false 0 :: .hop h.succ true 1 :: .hop h.succ false 1 :: rest (h.val + 1 + 1) := rest_cons h.succ
theorem rest_cs (h : Fin 6) : rest h.val
    = .hop h.castSucc true 0 :: .hop h.castSucc false 0 :: .hop h.castSucc true 1 :: .hop h.castSucc false 1 :: rest (h.val + 1) := rest_cons h.castSucc

theorem rowIf_true (h : ℕ) : (rowIf c true 0 h : sProp 𝕄) = rowP (orig true (h + 1) c) c := if_pos ⟨rfl, rfl⟩

theorem wp_iter (h : Fin 6) (Q : F .f32 → sProp 𝕄) :
    iprop(env m K ∗ St m c h.val ∗ (St m c (h.val + 1) -∗ Q (mv m c (h.val + 1)))) ⊢ WP c (iter h c (mv m c h.val)) Q := by
  have hl2 : ∀ p ∈ rest (h.val + 1 + 1), h.val + 2 < p.lev := fun p hp => by
    have := rest_lev ⟨h.val + 1 + 1, by omega⟩ p hp
    have : h.val + 1 + 1 + 1 < p.lev := this
    omega
  have hl1 : ∀ p ∈ (.hop h.succ true 1 :: .hop h.succ false 1 :: rest (h.val + 1 + 1) : List Pay), h.val + 2 < p.lev := fun p hp => by
    rcases List.mem_cons.mp hp with rfl | hp
    · show h.val + 2 < h.val + 1 + 2; omega
    rcases List.mem_cons.mp hp with rfl | hp
    · show h.val + 2 < h.val + 1 + 2; omega
    exact hl2 p hp
  have hl0 : ∀ p ∈ rest (h.val + 1), 0 < p.lev := fun p hp => by
    have := rest_lev ⟨h.val + 1, by omega⟩ p hp; omega
  have hcr : (crds c (rest h.val) : sProp 𝕄) = iprop(crd c (.hop h.castSucc true 0) ∗ crd c (.hop h.castSucc false 0)
      ∗ crd c (.hop h.castSucc true 1) ∗ crd c (.hop h.castSucc false 1) ∗ crds c (rest (h.val + 1))) := by
    rw [rest_cs, crds_cons, crds_cons, crds_cons, crds_cons]
  unfold iter St
  rw [hcr]
  iintro ⟨#HE, ⟨H4, -, Hacc, HO, HT, ⟨C1, C2, C3, C4, HC⟩, Hw, Ho⟩, Hk⟩
  iapply (WP_bind c _ _ _)
  iapply (wp_wSends_cs m K c h _ hl0)
  isplitr; · iexact HE
  isplitl [H4]; · iexact H4
  isplitl [HO]; · iexact HO
  iintro ⟨H4, HO⟩
  unfold Cb4
  icases H4 with ⟨H1, H2, H3, H4⟩
  iapply (WP_bind c _ _ _)
  iapply (wp_turn m K c h 0 _ hl1)
  isplitr; · iexact HE
  isplitl [H1]; · iexact H1
  isplitl [H2]; · iexact H2
  isplitl [C1]; · iexact C1
  isplitl [C2]; · iexact C2
  isplitl [HO]; · rw [← rest_succ]; iexact HO
  isplitl [HT]; · rw [← rest_succ]; iexact HT
  iintro ⟨H1, H2, L1, L2, Hrow, HO, HT⟩
  iapply (WP_bind c _ _ _)
  iapply (wp_turn m K c h 1 _ hl2)
  isplitr; · iexact HE
  isplitl [H3]; · iexact H3
  isplitl [H4]; · iexact H4
  isplitl [C3]; · iexact C3
  isplitl [C4]; · iexact C4
  isplitl [HO]; · iexact HO
  isplitl [HT]; · iexact HT
  iintro ⟨H3, H4, L3, L4, -, HO, HT⟩
  iapply (wp_dots m c h)
  isplitl [H1 H2 H3 H4]
  · unfold Ch4
    isplitl [H1]; · iexact H1
    isplitl [H2]; · iexact H2
    isplitl [H3]; · iexact H3
    iexact H4
  isplitl [Hw]; · iexact Hw
  isplitl [Ho]; · iexact Ho
  iintro ⟨H4, Hw, Ho⟩
  iapply Hk
  isplitl [H4]; · iexact H4
  isplitl [L1 L2 L3 L4]
  · unfold Lf4
    isplitl [L1]; · iexact L1
    isplitl [L2]; · iexact L2
    isplitl [L3]; · iexact L3
    iexact L4
  isplitl [Hacc Hrow]
  · rw [acc]
    isplitl [Hacc]; · iexact Hacc
    iapply (Entails.of_eq (rowIf_true (F := F) c h.val)); iexact Hrow
  isplitl [HO]; · iexact HO
  isplitl [HT]; · iexact HT
  isplitl [HC]; · iexact HC
  isplitl [Hw]; · iexact Hw
  iexact Ho

end Cert.KernelIdeal.Ring
-- ==== Proof.Last.lean ====
/-
  The last hop: its arrivals are multiplied and sent no further.
-/
module

public import proofs.«01_k».proof.Proof.Iter

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Fin 39 → ℕ) (c : Dev nD)

/-- A channel after its last arrival. -/
def Ce (D : Bool) (s : Fin 2) : sProp 𝕄 :=
  iprop((anySeg c D 0 s ∗ anySeg c D 1 s ∗ anySeg c D 2 s) ∗ pos3 (sF c D s) 7 ∗ pos3 (rF c D s) 7)

theorem left_six (D : Bool) (s : Fin 2) : (left c D s 6 : sProp 𝕄) = anySeg c D 2 s := if_pos rfl

theorem end_ch (D : Bool) (s : Fin 2) : iprop(ChC m c D s 6 ∗ left c D s 6) ⊢ Ce (F := F) c D s := by
  unfold ChC Ce
  iintro ⟨⟨H0, H1, Hs, Hr⟩, H2⟩
  isplitl [H0 H1 H2]
  · isplitl [H0]; · iexact H0
    isplitl [H1]; · unfold anySeg; iexists _; iexact H1
    iapply (Entails.of_eq (left_six (F := F) c D s)); iexact H2
  isplitl [Hs]; · iexact Hs
  iexact Hr

theorem wp_wRecv_6 (D : Bool) (s : Fin 2) (l : List Pay) (hl : ∀ p ∈ l, 8 < p.lev) (Q : PUnit → sProp 𝕄) :
    iprop(env m K ∗ ChB c D s 6 ∗ crd c (.hop 6 D s) ∗ Ow c l
        ∗ ((ChC m c D s 6 ∗ permIf (fr D c) (!D) s (6 + 1) ∗ ride D s (orig D (6 + 1) c) 6 ∗ Ow c l) -∗ Q ⟨⟩))
      ⊢ WP c (wRecv (F := F) 6 D s) Q :=
  wp_wRecv_ch m K c 6 D s l hl Q

theorem wp_lastDot (D : Bool) (s : Fin 2) (x : F .f32) (l : List (Wr F)) (Q : F .f32 → sProp 𝕄) :
    iprop(ChC m c D s 6 ∗ bufP c cc0_scratch6 (wX m c) ∗ outP c l
        ∗ ((ChC m c D s 6 ∗ bufP c cc0_scratch6 (wX m c) ∗ outP c (l ++ [lastW m D s c])) -∗ Q (mvl m c x D s)))
      ⊢ WP c (lastDot D s c x) Q := by
  rw [show mvl m c x D s = k0_pay31 x (segL m D (orig D 7 c) s) (wX m c) from rfl]
  unfold lastDot ChC
  iintro ⟨⟨H0, H1, HR⟩, Hw, Ho, Hk⟩
  iapply (WP_bind c _ _ _)
  iapply (wp_ldSeg m c D 1 s fullShare (orig D 7 c))
  isplitl [H1]; · iexact H1
  iintro H1
  iapply (WP_bind c _ _ _)
  iapply (wp_ldWb m c)
  isplitl [Hw]; · iexact Hw
  iintro Hw
  iapply (WP_bind c _ _ _)
  iapply (wp_stLast c D s)
  isplitl [Ho]; · iexact Ho
  iintro Ho
  iapply (WP_pure c _ _)
  iapply Hk
  isplitl [H0 H1 HR]
  · isplitl [H0]; · iexact H0
    isplitl [H1]; · iexact H1
    iexact HR
  isplitl [Hw]; · iexact Hw
  iexact Ho

/-- What device `c` holds when all blocks are multiplied. -/
def En : sProp 𝕄 :=
  iprop((Ce c true 0 ∗ Ce c false 0 ∗ Ce c true 1 ∗ Ce c false 1) ∗ acc c 7 ∗ Ow c (rest 7) ∗ toks c (rest 7) ∗ crds c (rest 7)
    ∗ bufP c cc0_scratch6 (wX m c) ∗ outP c (wlEnd m c))

theorem wp_lastHop (Q : F .f32 → sProp 𝕄) :
    iprop(env m K ∗ St m c 6 ∗ (En m c -∗ Q (mvEnd m c))) ⊢ WP c (lastHop c (mv m c 6)) Q := by
  have hl7 : ∀ p ∈ rest (6 + 1), 8 < p.lev := by decide
  have hl0 : ∀ p ∈ rest (6 + 1), 0 < p.lev := by decide
  have hcr : (crds c (rest 6) : sProp 𝕄) = iprop(crd c (.hop 6 true 0) ∗ crd c (.hop 6 false 0)
      ∗ crd c (.hop 6 true 1) ∗ crd c (.hop 6 false 1) ∗ crds c (rest 7)) := by
    rw [show rest 6 = .hop 6 true 0 :: .hop 6 false 0 :: .hop 6 true 1 :: .hop 6 false 1 :: rest 7 from rest_cons 6,
      crds_cons, crds_cons, crds_cons, crds_cons]
  rw [show mvEnd m c = mvl m c (mvl m c (mvl m c (mvl m c (mv m c 6) true 0) false 0) true 1) false 1 from rfl]
  unfold lastHop St
  rw [hcr]
  iintro ⟨#HE, ⟨H4, HL, Hacc, HO, HT, ⟨C1, C2, C3, C4, HC⟩, Hw, Ho⟩, Hk⟩
  iapply (WP_bind c _ _ _)
  iapply (wp_wSends m K c 6 _ hl0)
  isplitr; · iexact HE
  isplitl [H4]; · iexact H4
  isplitl [HO]; · iexact HO
  iintro ⟨H4, HO⟩
  unfold Cb4 Lf4
  icases H4 with ⟨H1, H2, H3, H4⟩
  icases HL with ⟨L1, L2, L3, L4⟩
  iapply (WP_bind c _ _ _)
  iapply (wp_wRecv_6 m K c true 0 _ hl7)
  isplitr; · iexact HE
  isplitl [H1]; · iexact H1
  isplitl [C1]; · iexact C1
  isplitl [HO]; · iexact HO
  iintro ⟨H1, -, Hride, HO⟩
  ihave Hride := (ride_step c true 0 6 (by omega)) $$ Hride
  icases Hride with ⟨-, Hrow⟩
  iapply (WP_bind c _ _ _)
  iapply (wp_wRecv_6 m K c false 0 _ hl7)
  isplitr; · iexact HE
  isplitl [H2]; · iexact H2
  isplitl [C2]; · iexact C2
  isplitl [HO]; · iexact HO
  iintro ⟨H2, -, -, HO⟩
  iapply (WP_bind c _ _ _)
  iapply (wp_lastDot m c true 0)
  isplitl [H1]; · iexact H1
  isplitl [Hw]; · iexact Hw
  isplitl [Ho]; · iexact Ho
  iintro ⟨H1, Hw, Ho⟩
  iapply (WP_bind c _ _ _)
  iapply (wp_lastDot m c false 0)
  isplitl [H2]; · iexact H2
  isplitl [Hw]; · iexact Hw
  isplitl [Ho]; · iexact Ho
  iintro ⟨H2, Hw, Ho⟩
  iapply (WP_bind c _ _ _)
  iapply (wp_wRecv_6 m K c true 1 _ hl7)
  isplitr; · iexact HE
  isplitl [H3]; · iexact H3
  isplitl [C3]; · iexact C3
  isplitl [HO]; · iexact HO
  iintro ⟨H3, -, -, HO⟩
  iapply (WP_bind c _ _ _)
  iapply (wp_wRecv_6 m K c false 1 _ hl7)
  isplitr; · iexact HE
  isplitl [H4]; · iexact H4
  isplitl [C4]; · iexact C4
  isplitl [HO]; · iexact HO
  iintro ⟨H4, -, -, HO⟩
  iapply (WP_bind c _ _ _)
  iapply (wp_lastDot m c true 1)
  isplitl [H3]; · iexact H3
  isplitl [Hw]; · iexact Hw
  isplitl [Ho]; · iexact Ho
  iintro ⟨H3, Hw, Ho⟩
  iapply (wp_lastDot m c false 1)
  isplitl [H4]; · iexact H4
  isplitl [Hw]; · iexact Hw
  isplitl [Ho]; · iexact Ho
  iintro ⟨H4, Hw, Ho⟩
  unfold En
  iapply Hk
  isplitl [H1 H2 H3 H4 L1 L2 L3 L4]
  · isplitl [H1 L1]
    · iapply (end_ch m c true 0); isplitl [H1]; · iexact H1
      iexact L1
    isplitl [H2 L2]
    · iapply (end_ch m c false 0); isplitl [H2]; · iexact H2
      iexact L2
    isplitl [H3 L3]
    · iapply (end_ch m c true 1); isplitl [H3]; · iexact H3
      iexact L3
    iapply (end_ch m c false 1); isplitl [H4]; · iexact H4
    iexact L4
  isplitl [Hacc Hrow]
  · rw [show (acc c 7 : sProp 𝕄) = iprop(acc c 6 ∗ rowP (orig true (6 + 1) c) c) from rfl]
    isplitl [Hacc]; · iexact Hacc
    iapply (Entails.of_eq (rowIf_true (F := F) c 6)); iexact Hrow
  isplitl [HO]; · iexact HO
  isplitl [HT]; · iexact HT
  isplitl [HC]; · iexact HC
  isplitl [Hw]; · iexact Hw
  iexact Ho

end Cert.KernelIdeal.Ring
-- ==== Proof.Start.lean ====
/-
  The start: the device's own rows into the ring buffers, the barrier, the first copies, the own blocks.
-/
module

public import proofs.«01_k».proof.Proof.Last

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Fin 39 → ℕ) (c : Dev nD)

/-- A channel at the start. -/
def Cs (D : Bool) (s : Fin 2) : sProp 𝕄 :=
  iprop((anySeg c D 0 s ∗ anySeg c D 1 s ∗ anySeg c D 2 s) ∗ pos3 (sF c D s) 0 ∗ pos3 (rF c D s) 0)

theorem perm0 (D : Bool) (s : Fin 2) : iprop(env m K ∗ anySeg c D 1 s) ⊢ perm c D s 0 := by
  have hr : env m K ⊢ reached ER (dmaC c (rcvSem D (sl (0 + 1)) s)) (0 / 3) := reached_dma m K c (rcvSem D (sl 1) s) (rcv_ge D _ s)
  unfold perm
  iintro ⟨#HE, H⟩
  isplitl [H]; · unfold anySeg; iexact H
  iapply hr; iexact HE
theorem perm1 (D : Bool) (s : Fin 2) : iprop(env m K ∗ anySeg c D 2 s) ⊢ permIf c D s 1 := by
  have hr : env m K ⊢ reached ER (dmaC c (rcvSem D (sl (1 + 1)) s)) (1 / 3) := reached_dma m K c (rcvSem D (sl 2) s) (rcv_ge D _ s)
  rw [show (permIf c D s 1 : sProp 𝕄) = perm c D s 1 from if_pos (by omega)]
  unfold perm
  iintro ⟨#HE, H⟩
  isplitl [H]; · unfold anySeg; iexact H
  iapply hr; iexact HE

/-- The first copy of a channel. -/
theorem wp_send0 (D : Bool) (s : Fin 2) (l : List Pay) (Q : PUnit → sProp 𝕄) :
    iprop(env m K ∗ owns (c : Thread nD τ) (segM D 0 s) fullShare (segX m D c s) ∗ pos3 (sF c D s) 0 ∗ pos3 (rF c D s) 0
        ∗ perm (nxt D c) D s 0 ∗ anySeg c (!D) 2 s ∗ ride D s c 0
        ∗ Ow c (.hop 0 D s :: l) ∗ toks c (.hop 0 D s :: l)
        ∗ ((ChA m c D s 0 ∗ Ow c l ∗ toks c l) -∗ Q ⟨⟩))
      ⊢ WP c (sendOp (F := F) 0 D s c) Q := by
  have h := wp_sendOp m K c 0 D s l Q
  rw [show orig D (0 : Fin 7).val c = c from rfl] at h
  unfold ChA
  rw [orig_zero]
  iintro ⟨#HE, Hsrc, Hps, Hpr, Hperm, Hdep, Hride, HO, HT, Hk⟩
  ihave Hdep := (perm1 m K c (!D) s) $$ [Hdep]
  · isplitr; · iexact HE
    iexact Hdep
  iapply h
  isplitr; · iexact HE
  isplitl [Hsrc]; · iexact Hsrc
  isplitl [Hperm]; · iexact Hperm
  isplitl [Hdep]; · iexact Hdep
  isplitl [Hride]; · iexact Hride
  isplitr; · iapply (reached_dma m K c (sndSem D (sl 0) s) (snd_ge D _ s)); iexact HE
  isplitl [HO]; · iexact HO
  isplitl [HT]; · iexact HT
  iintro ⟨Hl, Hc, HO, HT⟩
  iapply Hk
  isplitr [HO HT]
  · isplitl [Hl]; · iexact Hl
    isplitl [Hc]; · iexact Hc
    isplitl [Hps]; · iexact Hps
    iexact Hpr
  isplitl [HO]; · iexact HO
  iexact HT

theorem ride_gath : (gath c 7 : sProp 𝕄) ⊢ ride true 0 c 0 := Entails.of_eq (if_pos ⟨rfl, rfl⟩).symm
theorem ride_one (D : Bool) : (iprop(emp) : sProp 𝕄) ⊢ ride D 1 c 0 := Entails.of_eq (if_neg (fun h => absurd h.2 (by decide))).symm
theorem ride_ccw (s : Fin 2) : (iprop(emp) : sProp 𝕄) ⊢ ride false s c 0 := Entails.of_eq (if_neg (fun h => absurd h.1 (by decide))).symm

theorem rest_zero : rest 0 = .hop 0 true 0 :: .hop 0 false 0 :: .hop 0 true 1 :: .hop 0 false 1 :: rest 1 := rest_cons 0
theorem barT : (barPay c true : sProp 𝕄) = iprop(perm (nxt false c) false 0 0 ∗ perm (nxt false c) false 1 0) := rfl
theorem barF : (barPay c false : sProp 𝕄) = iprop(perm (nxt true c) true 0 0 ∗ perm (nxt true c) true 1 0) := rfl
theorem left_zero : (iprop(emp) : sProp 𝕄) ⊢ Lf4 c 0 := by
  have h (D : Bool) (s : Fin 2) : (left c D s 0 : sProp 𝕄) = iprop(emp) := if_neg (by decide)
  unfold Lf4
  rw [h, h, h, h]
  iintro -
  isplitr; · iempintro
  isplitr; · iempintro
  isplitr <;> iempintro

/-- The payments one by one: the credits at the start, the two barrier ones as one. -/
def Sg : sProp 𝕄 :=
  iprop((Cs c true 0 ∗ Cs c false 0 ∗ Cs c true 1 ∗ Cs c false 1) ∗ gath c 7 ∗ Ow c allPays ∗ toks c allPays ∗ crds c (rest 0)
    ∗ (cred (tallyAt (barC c) 0 2) ∗ pos (barC c) 0)
    ∗ bufP c cc0_stg0_0 (xstg m c) ∗ bufP c cc0_stg1_0 (wstg m c) ∗ (∃ f, bufP c cc0_scratch6 f) ∗ (∃ f, bufP c cc0_stg2_0 f))

/-- The body up to the own blocks. -/
def begin' (d : Dev nD) : P F (F .f32) := do
  fill true; fill false
  sigPrev d; sigNext d; wBar
  sends0 d
  copyW
  own d

theorem wp_begin (Q : F .f32 → sProp 𝕄) :
    iprop(env m K ∗ Sg m c
        ∗ ((St m c 0 ∗ pos (barC c) 1 ∗ bufP c cc0_stg0_0 (xstg m c) ∗ bufP c cc0_stg1_0 (wstg m c)) -∗ Q (mv m c 0)))
      ⊢ WP c (begin' (F := F) c) Q := by
  have hl1 : ∀ p ∈ rest 0, 1 < p.lev := by decide
  unfold begin' Sg Cs St
  iintro ⟨#HE, ⟨⟨⟨⟨A0, A1, A2⟩, AS, AR⟩, ⟨⟨B0, B1, B2⟩, BS, BR⟩, ⟨⟨C0, C1, C2⟩, CS, CR⟩, ⟨⟨D0, D1, D2⟩, DS, DR⟩⟩,
    Hg, HO, HT, HC, ⟨Hbc, Hbp⟩, Hx, Hw, Hwb, Ho⟩, Hk⟩
  iapply (WP_bind c _ _ _)
  iapply (wp_fill m c true)
  isplitl [Hx]; · iexact Hx
  isplitl [A0]; · iexact A0
  isplitl [C0]; · iexact C0
  iintro ⟨Hx, A0, C0⟩
  iapply (WP_bind c _ _ _)
  iapply (wp_fill m c false)
  isplitl [Hx]; · iexact Hx
  isplitl [B0]; · iexact B0
  isplitl [D0]; · iexact D0
  iintro ⟨Hx, B0, D0⟩
  ihave A1 := (perm0 m K c true 0) $$ [A1]
  · isplitr; · iexact HE
    iexact A1
  ihave B1 := (perm0 m K c false 0) $$ [B1]
  · isplitr; · iexact HE
    iexact B1
  ihave C1 := (perm0 m K c true 1) $$ [C1]
  · isplitr; · iexact HE
    iexact C1
  ihave D1 := (perm0 m K c false 1) $$ [D1]
  · isplitr; · iexact HE
    iexact D1
  iapply (WP_bind c _ _ _)
  iapply (wp_sigPrev m K c)
  isplitr; · iexact HE
  isplitl [A1 C1]
  · isplitl [A1]; · iexact A1
    iexact C1
  isplitl [HO]; · iexact HO
  isplitl [HT]; · iexact HT
  iintro ⟨HO, HT⟩
  iapply (WP_bind c _ _ _)
  iapply (wp_sigNext m K c)
  isplitr; · iexact HE
  isplitl [B1 D1]
  · isplitl [B1]; · iexact B1
    iexact D1
  isplitl [HO]; · iexact HO
  isplitl [HT]; · iexact HT
  iintro ⟨HO, HT⟩
  iapply (WP_bind c _ _ _)
  iapply (wp_wBar m K c _ hl1)
  isplitr; · iexact HE
  isplitl [Hbc]; · iexact Hbc
  isplitl [Hbp]; · iexact Hbp
  isplitl [HO]; · iexact HO
  iintro ⟨Hbp, HbF, HbT, HO⟩
  ihave HbF := (Entails.of_eq (barF (F := F) c)) $$ HbF
  ihave HbT := (Entails.of_eq (barT (F := F) c)) $$ HbT
  ihave HO := (Entails.of_eq (congrArg (Ow (F := F) c) rest_zero)) $$ HO
  ihave HT := (Entails.of_eq (congrArg (toks (F := F) c) rest_zero)) $$ HT
  icases HbF with ⟨A1, C1⟩
  icases HbT with ⟨B1, D1⟩
  unfold sends0
  iapply (WP_bind c _ _ _)
  iapply (WP_bind c _ _ _)
  iapply (wp_send0 m K c true 0)
  isplitr; · iexact HE
  isplitl [A0]; · iexact A0
  isplitl [AS]; · iexact AS
  isplitl [AR]; · iexact AR
  isplitl [A1]; · iexact A1
  isplitl [B2]; · iexact B2
  isplitl [Hg]; · iapply (ride_gath c); iexact Hg
  isplitl [HO]; · iexact HO
  isplitl [HT]; · iexact HT
  iintro ⟨A0, HO, HT⟩
  iapply (WP_bind c _ _ _)
  iapply (wp_send0 m K c false 0)
  isplitr; · iexact HE
  isplitl [B0]; · iexact B0
  isplitl [BS]; · iexact BS
  isplitl [BR]; · iexact BR
  isplitl [B1]; · iexact B1
  isplitl [A2]; · iexact A2
  isplitr; · iapply (ride_ccw c 0); iempintro
  isplitl [HO]; · iexact HO
  isplitl [HT]; · iexact HT
  iintro ⟨B0, HO, HT⟩
  iapply (WP_bind c _ _ _)
  iapply (wp_send0 m K c true 1)
  isplitr; · iexact HE
  isplitl [C0]; · iexact C0
  isplitl [CS]; · iexact CS
  isplitl [CR]; · iexact CR
  isplitl [C1]; · iexact C1
  isplitl [D2]; · iexact D2
  isplitr; · iapply (ride_one c true); iempintro
  isplitl [HO]; · iexact HO
  isplitl [HT]; · iexact HT
  iintro ⟨C0, HO, HT⟩
  iapply (wp_send0 m K c false 1)
  isplitr; · iexact HE
  isplitl [D0]; · iexact D0
  isplitl [DS]; · iexact DS
  isplitl [DR]; · iexact DR
  isplitl [D1]; · iexact D1
  isplitl [C2]; · iexact C2
  isplitr; · iapply (ride_one c false); iempintro
  isplitl [HO]; · iexact HO
  isplitl [HT]; · iexact HT
  iintro ⟨D0, HO, HT⟩
  iapply (WP_bind c _ _ _)
  iapply (wp_copyW m c)
  isplitl [Hw]; · iexact Hw
  isplitl [Hwb]; · iexact Hwb
  iintro ⟨Hw, Hwb⟩
  iapply (wp_own m c)
  isplitl [A0 B0 C0 D0]
  · unfold Ch4
    isplitl [A0]; · iexact A0
    isplitl [B0]; · iexact B0
    isplitl [C0]; · iexact C0
    iexact D0
  isplitl [Hwb]; · iexact Hwb
  isplitl [Ho]; · unfold outP; iexact Ho
  iintro ⟨H4, Hwb, Ho⟩
  iapply Hk
  isplitr [Hbp Hx Hw]
  · isplitl [H4]; · iexact H4
    isplitr; · iapply (left_zero (F := F) c); iempintro
    isplitr; · rw [acc]; iempintro
    isplitl [HO]; · iexact HO
    isplitl [HT]; · iexact HT
    isplitl [HC]; · iexact HC
    isplitl [Hwb]; · iexact Hwb
    iexact Ho
  isplitl [Hbp]; · iexact Hbp
  isplitl [Hx]; · iexact Hx
  iexact Hw

end Cert.KernelIdeal.Ring
-- ==== Proof.Max.lean ====
/-
  The exchange of the maxima: each device's row to every other, all rows gathered.
-/
module

public import proofs.«01_k».proof.Proof.Start
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Fin 39 → ℕ) (c : Dev nD)

theorem wp_putRow (r : Rect S8x128) (v : Vec F r.shape .f32) {hl : gaM.view.LoadsAt r.toLoadRect}
    {hx : (gaM.access r : View sig .tc _ _ _).Stores Finset.univ} {hm : (Finset.univ : Finset r.shape.Idx) = Finset.univ ∨ ∀ a, r.stride a = 1}
    (Q : PUnit → sProp 𝕄) :
    iprop((∃ f, gaM.view.loc (c : Thread nD τ) ↦[(gaM.view.slice r).set]{fullShare} f)
        ∗ ((∃ f, ⌜(gaM.view.slice r).read (Elt F) f = v⌝ ∗ gaM.view.loc (c : Thread nD τ) ↦[(gaM.view.slice r).set]{fullShare} f) -∗ Q ⟨⟩))
      ⊢ WP c (do let _ ← Prog.lift (.load gaM r.toLoadRect hl); Prog.lift (.store gaM r v Finset.univ hx hm)) Q := by
  simp only [Prog.lift, Prog.bind_op, Prog.bind_ret]
  iintro ⟨⟨%f, Ho⟩, Hk⟩
  iapply (wp_load 𝒱₀ (c : Thread nD τ) none Set.univ (m := gaM) (r := r.toLoadRect) (S := (gaM.view.slice r).set) (by rw [View.set_slice]; exact Finset.Subset.refl _)) $$ Ho
  iintro Ho
  iapply (wp_store 𝒱₀ (c : Thread nD τ) none Set.univ (m := gaM) (r := r) (Mk := Finset.univ) (S := (gaM.view.slice r).set) (Finset.Subset.refl _)) $$ Ho
  iintro Ho
  rw [wp_ret]; imodintro
  iapply Hk
  iexists _
  isplitr
  swap
  · iexact Ho
  · ipureintro; exact View.read_write_univ _ _

theorem wp_putMine (off : Fin 2 → ℕ) (ho : off = k0_off8 c) (inb : ∀ a, off a + S1x128.size a ≤ S8x128.size a)
    (v : Vec F S1x128 .f32) {hl : gaM.view.LoadsAt (Rect.unit (s := S8x128) off S1x128.size inb).toLoadRect}
    {hx : (gaM.access (Rect.unit (s := S8x128) off S1x128.size inb) : View sig .tc _ _ _).Stores Finset.univ}
    {hm : (Finset.univ : Finset (Rect.unit (s := S8x128) off S1x128.size inb).shape.Idx) = Finset.univ ∨ ∀ a, (Rect.unit (s := S8x128) off S1x128.size inb).stride a = 1}
    (Q : PUnit → sProp 𝕄) :
    iprop(rowP c c ∗ (owns (c : Thread nD τ) (rowM c) fullShare v -∗ Q ⟨⟩))
      ⊢ WP c (do let _ ← Prog.lift (.load gaM (Rect.unit (s := S8x128) off S1x128.size inb).toLoadRect hl)
                 Prog.lift (.store gaM (Rect.unit (s := S8x128) off S1x128.size inb) v Finset.univ hx hm)) Q := by
  subst ho
  have h := wp_putRow (F := F) c (rowR c) v (hl := hl) (hx := hx) (hm := hm) Q
  refine BIBase.Entails.trans ?_ h
  unfold rowP owns
  iintro ⟨⟨%X, %f, -, H⟩, Hk⟩
  isplitl [H]
  · iexists f; iexact H
  iintro ⟨%g, %hg, H⟩
  iapply Hk
  iexists g
  isplitr; · ipureintro; exact hg
  iexact H

theorem wp_putMax (Q : PUnit → sProp 𝕄) :
    iprop((∃ f, bufP c cc0_scratch7 f) ∗ rowP c c
        ∗ ((owns (c : Thread nD τ) amM fullShare (amX m c) ∗ owns (c : Thread nD τ) (rowM c) fullShare (amX m c)) -∗ Q ⟨⟩))
      ⊢ WP c (putMax c (mvEnd m c)) Q := by
  have e1 (f : cc0_scratch7.ty.Contents (Elt F)) : ((amM.access amR : View sig .tc _ _ _).write (Elt F) f
      (shapeCast S1x128 (broadcast S128 (mvEnd m c)) shapeCasts_S128_S1x128) Finset.univ) = amX m c :=
    Memref.write_access_unit_zero_univ (Elt F) cc0_scratch7 hz2 _ f _
  have e2 : (amM.view.readAt (Elt F) amR.toLoadRect (amX m c)) = amX m c := Memref.readAt_unit_zero (Elt F) cc0_scratch7 hz2 _ _
  have e3 : k0_pay38 (amX m c) = amX m c := shapeCast_self _ _
  rw [owns_whole]
  unfold putMax
  iintro ⟨⟨%f, Ha⟩, Hr, Hk⟩
  iapply (WP_bind c _ _ _)
  simp only [Prog.lift]
  iapply (wp_load 𝒱₀ (c : Thread nD τ) none Set.univ (m := amM) (Finset.subset_univ _)) $$ Ha
  iintro Ha
  rw [wp_ret]; imodintro
  iapply (WP_bind c _ _ _)
  iapply (wp_store 𝒱₀ (c : Thread nD τ) none Set.univ (m := amM) (r := amR) (Mk := Finset.univ) (Finset.subset_univ _)) $$ Ha
  iintro Ha
  rw [e1, wp_ret]; imodintro
  iapply (WP_bind c _ _ _)
  iapply (wp_load 𝒱₀ (c : Thread nD τ) none Set.univ (m := amM) (Finset.subset_univ _)) $$ Ha
  iintro Ha
  rw [e2, wp_ret]; imodintro
  rw [e3]
  iapply (wp_putMine c (k0_off7 c) ((off7_eq c).trans (off8_eq c).symm) (k0_off7_inb c) (amX m c) Q)
  isplitl [Hr]; · iexact Hr
  iintro Hr
  iapply Hk
  isplitl [Ha]; · iexact Ha
  iexact Hr

/-! ## The exchange of the maxima -/

theorem wp_asnd_ch (j : Fin 7) (l : List Pay) (Q : PUnit → sProp 𝕄) :
    iprop(env m K ∗ owns (c : Thread nD τ) amM (rem j.val) (amX m c) ∗ rowP (fwd j c) c
        ∗ Ow c (.am j :: l) ∗ toks c (.am j :: l)
        ∗ ((owns (c : Thread nD τ) amM (rem (j.val + 1)) (amX m c) ∗ cred (tallyAt (dmaC c (asndSem j)) 0 NA) ∗ Ow c l ∗ toks c l) -∗ Q ⟨⟩))
      ⊢ WP c (asnd (F := F) j c) Q := by
  iintro ⟨#HE, Ha, Hr, HO, HT, Hk⟩
  ihave Ha := (owns_halves (c : Thread nD τ) amM (rem j.val) (amX m c)).1 $$ Ha
  icases Ha with ⟨Hl, Ha⟩
  iapply (wp_asnd m K c j l Q)
  isplitr; · iexact HE
  isplitl [Hl]; · iexact Hl
  isplitl [Hr]; · iexact Hr
  isplitl [HO]; · iexact HO
  isplitl [HT]; · iexact HT
  iintro ⟨Hc, HO, HT⟩
  iapply Hk
  isplitl [Ha]; · iexact Ha
  isplitl [Hc]; · iexact Hc
  isplitl [HO]; · iexact HO
  iexact HT

theorem from_nodup : ∀ c : Dev nD, [orig true 1 c, orig true 2 c, orig true 3 c, orig true 4 c, orig true 5 c, orig true 6 c, orig true 7 c].Nodup := by
  decide
theorem fwd_nodup : ∀ c : Dev nD, [fwd 0 c, fwd 1 c, fwd 2 c, fwd 3 c, fwd 4 c, fwd 5 c, fwd 6 c].Nodup := by decide
theorem from_fwd : ∀ c : Dev nD, [orig true 1 c, orig true 2 c, orig true 3 c, orig true 4 c, orig true 5 c, orig true 6 c, orig true 7 c].toFinset
      = [fwd 0 c, fwd 1 c, fwd 2 c, fwd 3 c, fwd 4 c, fwd 5 c, fwd 6 c].toFinset := by decide

/-- The rows a device may write, as it writes them. -/
theorem acc_fwd : (acc c 7 : sProp 𝕄)
    ⊢ iprop(rowP (fwd 0 c) c ∗ rowP (fwd 1 c) c ∗ rowP (fwd 2 c) c ∗ rowP (fwd 3 c) c ∗ rowP (fwd 4 c) c ∗ rowP (fwd 5 c) c ∗ rowP (fwd 6 c) c) := by
  have h1 : (acc c 7 : sProp 𝕄) ⊢ bigSepL [orig true 1 c, orig true 2 c, orig true 3 c, orig true 4 c, orig true 5 c, orig true 6 c, orig true 7 c]
      (fun p => rowP p c) := by
    show _ ⊢ iprop(rowP (orig true 1 c) c ∗ rowP (orig true 2 c) c ∗ rowP (orig true 3 c) c ∗ rowP (orig true 4 c) c ∗ rowP (orig true 5 c) c
      ∗ rowP (orig true 6 c) c ∗ rowP (orig true 7 c) c)
    rw [acc, acc, acc, acc, acc, acc, acc, acc]
    iintro ⟨⟨⟨⟨⟨⟨⟨-, H1⟩, H2⟩, H3⟩, H4⟩, H5⟩, H6⟩, H7⟩
    isplitl [H1]; · iexact H1
    isplitl [H2]; · iexact H2
    isplitl [H3]; · iexact H3
    isplitl [H4]; · iexact H4
    isplitl [H5]; · iexact H5
    isplitl [H6]; · iexact H6
    iexact H7
  refine h1.trans (Entails.of_eq ?_)
  rw [← bigSep_eq_bigSepL_of_eq _ rfl (from_nodup c), bigSep_eq_bigSepL_of_eq _ (from_fwd c) (fwd_nodup c)]
  rfl

/-- All rows, starting with a device's own. -/
theorem rows_dest (G : Dev nD → sProp 𝕄) : bigSep Finset.univ G
    = iprop(G c ∗ G (dest 1 c) ∗ G (dest 2 c) ∗ G (dest 3 c) ∗ G (dest 4 c) ∗ G (dest 5 c) ∗ G (dest 6 c) ∗ G (dest 7 c)) :=
  bigSep_univ_eq_bigSepL [c, dest 1 c, dest 2 c, dest 3 c, dest 4 c, dest 5 c, dest 6 c, dest 7 c] (by revert c; decide) (by revert c; decide) G
theorem rows_bwd (G : Dev nD → sProp 𝕄) : bigSep Finset.univ G
    = iprop(G c ∗ G (bwd 0 c) ∗ G (bwd 1 c) ∗ G (bwd 2 c) ∗ G (bwd 3 c) ∗ G (bwd 4 c) ∗ G (bwd 5 c) ∗ G (bwd 6 c)) :=
  bigSep_univ_eq_bigSepL [c, bwd 0 c, bwd 1 c, bwd 2 c, bwd 3 c, bwd 4 c, bwd 5 c, bwd 6 c] (by revert c; decide) (by revert c; decide) G

theorem row_disj (t t' : Dev nD) (h : t ≠ t') : Disjoint (rowR t).set (rowR t').set := by
  have h : t.val ≠ t'.val := fun e => h (Fin.ext e)
  refine Rect.unit_disjoint (0 : Fin 2) ?_
  rw [off8_eq, off8_eq]
  show t.val + 1 ≤ t'.val ∨ t'.val + 1 ≤ t.val
  omega
theorem row_cover : (Finset.univ : Finset (Dev nD)).biUnion (fun t => (rowR t).set) = Finset.univ := by
  refine Finset.eq_univ_of_forall fun i => Finset.mem_biUnion.mpr ⟨⟨(i 0).val, (i 0).isLt⟩, Finset.mem_univ _, ?_⟩
  rw [Rect.mem_set_unit]
  intro a
  rw [off8_eq]
  have := (i a).isLt
  fin_cases a
  · exact ⟨Nat.le_refl _, Nat.lt_succ_self _⟩
  · exact ⟨Nat.zero_le _, by show (i 1).val < 0 + 128; have : (i 1).val < 128 := (i 1).isLt; omega⟩
theorem row_read (t : Dev nD) : (fun j => gaX m ((rowR t).emb j)) = amX m t := by
  funext j
  unfold gaX
  have h0 : (((rowR t).emb j) 0).val = t.val := by
    rw [Rect.emb_apply]
    show (k0_off8 t) 0 + 1 * (j 0).val = t.val
    rw [off8_eq]
    have : (j 0).val < 1 := (j 0).isLt
    show t.val + 1 * (j 0).val = t.val
    omega
  have h1 : (((rowR t).emb j) 1).val = (j 1).val := by
    rw [Rect.emb_apply]
    show (k0_off8 t) 1 + 1 * (j 1).val = _
    rw [off8_eq]
    show 0 + 1 * (j 1).val = _
    omega
  have et : (⟨(((rowR t).emb j) 0).val, (((rowR t).emb j) 0).isLt⟩ : Dev nD) = t := Fin.ext h0
  rw [et]
  congr 1
  funext a
  apply Fin.ext
  fin_cases a
  · have : (j 0).val < 1 := (j 0).isLt
    show 0 = (j 0).val
    omega
  · exact h1

theorem row_any (t : Dev nD) (X : Vec F S1x128 .f32) : (owns (c : Thread nD τ) (rowM t) fullShare X : sProp 𝕄) ⊢ rowP c t := by
  unfold rowP; iintro H; iexists _; iexact H

/-- The maxima as rows. -/
theorem ga_rows : (iprop(∃ f, bufP c cc0_scratch8 f) : sProp 𝕄) ⊢ iprop(rowP c c ∗ gath c 7) := by
  have h : (iprop(∃ f, bufP c cc0_scratch8 f) : sProp 𝕄) ⊢ bigSep Finset.univ fun t => rowP c t := by
    iintro ⟨%f, H⟩
    ihave H := (Entails.of_eq (owns_whole (c : Thread nD τ) cc0_scratch8 fullShare f).symm) $$ H
    ihave H := (owns_rects (c : Thread nD τ) gaM fullShare rowR (fun _ _ => rfl) row_disj row_cover f) $$ H
    iapply (show (bigSep Finset.univ fun t => owns (c : Thread nD τ) (rowM t) fullShare (fun j => f ((rowR t).emb j)) : sProp 𝕄)
        ⊢ bigSep Finset.univ fun t => rowP c t from bigSep_mono fun t _ => row_any c t _)
    iexact H
  refine h.trans ((Entails.of_eq (rows_dest c _)).trans ?_)
  rw [gath, gath, gath, gath, gath, gath, gath, gath]
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

theorem rows_ga :
    iprop(owns (c : Thread nD τ) (rowM c) fullShare (amX m c) ∗ arcvPay m c 0 ∗ arcvPay m c 1 ∗ arcvPay m c 2 ∗ arcvPay m c 3
      ∗ arcvPay m c 4 ∗ arcvPay m c 5 ∗ arcvPay m c 6) ⊢ bufP c cc0_scratch8 (gaX m) := by
  refine (Entails.of_eq (rows_bwd c (fun t => owns (c : Thread nD τ) (rowM t) fullShare (amX m t))).symm).trans ?_
  refine BIBase.Entails.trans ?_ (Entails.of_eq (owns_whole (c : Thread nD τ) cc0_scratch8 fullShare (gaX m)))
  refine BIBase.Entails.trans ?_ (owns_of_rects (c : Thread nD τ) gaM fullShare rowR (fun _ _ => rfl) row_disj row_cover (gaX m))
  refine bigSep_mono fun t _ => ?_
  rw [row_read]
  exact (BIBase.Entails.rfl : (owns (c : Thread nD τ) (rowM t) fullShare (amX m t) : sProp 𝕄) ⊢ _)

/-- What the exchange leaves. -/
def Gd : sProp 𝕄 :=
  iprop(bufP c cc0_scratch8 (gaX m) ∗ bufP c cc0_scratch7 (amX m c) ∗ Ow c [] ∗ (bigSep Finset.univ fun j => pos (dmaC c (asndSem j)) 1)
    ∗ (bigSep Finset.univ fun j => pos (dmaC c (arcvSem j)) 1))

theorem seven (G : Fin 7 → sProp 𝕄) : bigSep Finset.univ G = iprop(G 0 ∗ G 1 ∗ G 2 ∗ G 3 ∗ G 4 ∗ G 5 ∗ G 6) :=
  bigSep_univ_eq_bigSepL [0, 1, 2, 3, 4, 5, 6] (by decide) (by decide) G

theorem am_join (n : Fin 7) : iprop(asndPay m c n ∗ owns (c : Thread nD τ) amM (rem (n.val + 1)) (amX m c)) ⊢ (owns (c : Thread nD τ) amM (rem n.val) (amX m c) : sProp 𝕄) :=
  (owns_halves (c : Thread nD τ) amM (rem n.val) (amX m c)).2

theorem wp_gather (Q : PUnit → sProp 𝕄) :
    iprop(env m K ∗ owns (c : Thread nD τ) amM fullShare (amX m c) ∗ owns (c : Thread nD τ) (rowM c) fullShare (amX m c) ∗ acc c 7
        ∗ Ow c (rest 7) ∗ toks c (rest 7) ∗ crds c (rest 7) ∗ (bigSep Finset.univ fun j => pos (dmaC c (asndSem j)) 0)
        ∗ (bigSep Finset.univ fun j => pos (dmaC c (arcvSem j)) 0)
        ∗ (Gd m c -∗ Q ⟨⟩))
      ⊢ WP c (gather (F := F) c) Q := by
  have hcr : (crds c (rest 7) : sProp 𝕄) = iprop(crd c (.am 0) ∗ crd c (.am 1) ∗ crd c (.am 2) ∗ crd c (.am 3) ∗ crd c (.am 4) ∗ crd c (.am 5) ∗ crd c (.am 6)) := by
    rw [rest_seven]; rfl
  rw [hcr, rest_seven, seven, seven]
  unfold gather ams Gd
  iintro ⟨#HE, Ha, Hrow, Hacc, HO, HT, ⟨C0, C1, C2, C3, C4, C5, C6⟩, ⟨S0, S1, S2, S3, S4, S5, S6⟩, ⟨R0, R1, R2, R3, R4, R5, R6⟩, Hk⟩
  ihave Hacc := (acc_fwd (F := F) c) $$ Hacc
  icases Hacc with ⟨W0, W1, W2, W3, W4, W5, W6⟩
  iapply (WP_bind c _ _ _)
  iapply (wp_asnd_ch m K c 0)
  isplitr; · iexact HE
  isplitl [Ha]; · iexact Ha
  isplitl [W0]; · iexact W0
  isplitl [HO]; · iexact HO
  isplitl [HT]; · iexact HT
  iintro ⟨Ha, W0, HO, HT⟩
  iapply (WP_bind c _ _ _)
  iapply (wp_asnd_ch m K c 1)
  isplitr; · iexact HE
  isplitl [Ha]; · iexact Ha
  isplitl [W1]; · iexact W1
  isplitl [HO]; · iexact HO
  isplitl [HT]; · iexact HT
  iintro ⟨Ha, W1, HO, HT⟩
  iapply (WP_bind c _ _ _)
  iapply (wp_asnd_ch m K c 2)
  isplitr; · iexact HE
  isplitl [Ha]; · iexact Ha
  isplitl [W2]; · iexact W2
  isplitl [HO]; · iexact HO
  isplitl [HT]; · iexact HT
  iintro ⟨Ha, W2, HO, HT⟩
  iapply (WP_bind c _ _ _)
  iapply (wp_asnd_ch m K c 3)
  isplitr; · iexact HE
  isplitl [Ha]; · iexact Ha
  isplitl [W3]; · iexact W3
  isplitl [HO]; · iexact HO
  isplitl [HT]; · iexact HT
  iintro ⟨Ha, W3, HO, HT⟩
  iapply (WP_bind c _ _ _)
  iapply (wp_asnd_ch m K c 4)
  isplitr; · iexact HE
  isplitl [Ha]; · iexact Ha
  isplitl [W4]; · iexact W4
  isplitl [HO]; · iexact HO
  isplitl [HT]; · iexact HT
  iintro ⟨Ha, W4, HO, HT⟩
  iapply (WP_bind c _ _ _)
  iapply (wp_asnd_ch m K c 5)
  isplitr; · iexact HE
  isplitl [Ha]; · iexact Ha
  isplitl [W5]; · iexact W5
  isplitl [HO]; · iexact HO
  isplitl [HT]; · iexact HT
  iintro ⟨Ha, W5, HO, HT⟩
  iapply (WP_bind c _ _ _)
  iapply (wp_asnd_ch m K c 6)
  isplitr; · iexact HE
  isplitl [Ha]; · iexact Ha
  isplitl [W6]; · iexact W6
  isplitl [HO]; · iexact HO
  isplitl [HT]; · iexact HT
  iintro ⟨Ha, W6, HO, HT⟩
  iapply (WP_bind c _ _ _)
  iapply (wp_wARecv m K c 0)
  isplitr; · iexact HE
  isplitl [C0]; · iexact C0
  isplitl [R0]; · iexact R0
  isplitl [HO]; · iexact HO
  iintro ⟨R0, C0, HO⟩
  iapply (WP_bind c _ _ _)
  iapply (wp_wARecv m K c 1)
  isplitr; · iexact HE
  isplitl [C1]; · iexact C1
  isplitl [R1]; · iexact R1
  isplitl [HO]; · iexact HO
  iintro ⟨R1, C1, HO⟩
  iapply (WP_bind c _ _ _)
  iapply (wp_wARecv m K c 2)
  isplitr; · iexact HE
  isplitl [C2]; · iexact C2
  isplitl [R2]; · iexact R2
  isplitl [HO]; · iexact HO
  iintro ⟨R2, C2, HO⟩
  iapply (WP_bind c _ _ _)
  iapply (wp_wARecv m K c 3)
  isplitr; · iexact HE
  isplitl [C3]; · iexact C3
  isplitl [R3]; · iexact R3
  isplitl [HO]; · iexact HO
  iintro ⟨R3, C3, HO⟩
  iapply (WP_bind c _ _ _)
  iapply (wp_wARecv m K c 4)
  isplitr; · iexact HE
  isplitl [C4]; · iexact C4
  isplitl [R4]; · iexact R4
  isplitl [HO]; · iexact HO
  iintro ⟨R4, C4, HO⟩
  iapply (WP_bind c _ _ _)
  iapply (wp_wARecv m K c 5)
  isplitr; · iexact HE
  isplitl [C5]; · iexact C5
  isplitl [R5]; · iexact R5
  isplitl [HO]; · iexact HO
  iintro ⟨R5, C5, HO⟩
  iapply (WP_bind c _ _ _)
  iapply (wp_wARecv m K c 6)
  isplitr; · iexact HE
  isplitl [C6]; · iexact C6
  isplitl [R6]; · iexact R6
  isplitl [HO]; · iexact HO
  iintro ⟨R6, C6, HO⟩
  iapply (WP_bind c _ _ _)
  iapply (wp_wASend m K c 0)
  isplitr; · iexact HE
  isplitl [W0]; · iexact W0
  isplitl [S0]; · iexact S0
  isplitl [HO]; · iexact HO
  iintro ⟨S0, W0, HO⟩
  iapply (WP_bind c _ _ _)
  iapply (wp_wASend m K c 1)
  isplitr; · iexact HE
  isplitl [W1]; · iexact W1
  isplitl [S1]; · iexact S1
  isplitl [HO]; · iexact HO
  iintro ⟨S1, W1, HO⟩
  iapply (WP_bind c _ _ _)
  iapply (wp_wASend m K c 2)
  isplitr; · iexact HE
  isplitl [W2]; · iexact W2
  isplitl [S2]; · iexact S2
  isplitl [HO]; · iexact HO
  iintro ⟨S2, W2, HO⟩
  iapply (WP_bind c _ _ _)
  iapply (wp_wASend m K c 3)
  isplitr; · iexact HE
  isplitl [W3]; · iexact W3
  isplitl [S3]; · iexact S3
  isplitl [HO]; · iexact HO
  iintro ⟨S3, W3, HO⟩
  iapply (WP_bind c _ _ _)
  iapply (wp_wASend m K c 4)
  isplitr; · iexact HE
  isplitl [W4]; · iexact W4
  isplitl [S4]; · iexact S4
  isplitl [HO]; · iexact HO
  iintro ⟨S4, W4, HO⟩
  iapply (WP_bind c _ _ _)
  iapply (wp_wASend m K c 5)
  isplitr; · iexact HE
  isplitl [W5]; · iexact W5
  isplitl [S5]; · iexact S5
  isplitl [HO]; · iexact HO
  iintro ⟨S5, W5, HO⟩
  iapply (wp_wASend m K c 6)
  isplitr; · iexact HE
  isplitl [W6]; · iexact W6
  isplitl [S6]; · iexact S6
  isplitl [HO]; · iexact HO
  iintro ⟨S6, W6, HO⟩
  ihave Ha := (am_join m c 6) $$ [W6 Ha]
  · isplitl [W6]; · iexact W6
    iexact Ha
  ihave Ha := (am_join m c 5) $$ [W5 Ha]
  · isplitl [W5]; · iexact W5
    iexact Ha
  ihave Ha := (am_join m c 4) $$ [W4 Ha]
  · isplitl [W4]; · iexact W4
    iexact Ha
  ihave Ha := (am_join m c 3) $$ [W3 Ha]
  · isplitl [W3]; · iexact W3
    iexact Ha
  ihave Ha := (am_join m c 2) $$ [W2 Ha]
  · isplitl [W2]; · iexact W2
    iexact Ha
  ihave Ha := (am_join m c 1) $$ [W1 Ha]
  · isplitl [W1]; · iexact W1
    iexact Ha
  ihave Ha := (am_join m c 0) $$ [W0 Ha]
  · isplitl [W0]; · iexact W0
    iexact Ha
  iapply Hk
  isplitl [Hrow C0 C1 C2 C3 C4 C5 C6]
  · iapply (rows_ga m c)
    isplitl [Hrow]; · iexact Hrow
    isplitl [C0]; · iexact C0
    isplitl [C1]; · iexact C1
    isplitl [C2]; · iexact C2
    isplitl [C3]; · iexact C3
    isplitl [C4]; · iexact C4
    isplitl [C5]; · iexact C5
    iexact C6
  isplitl [Ha]; · iapply (Entails.of_eq (owns_whole (c : Thread nD τ) cc0_scratch7 fullShare (amX m c))); iexact Ha
  isplitl [HO]; · iexact HO
  isplitl [S0 S1 S2 S3 S4 S5 S6]
  · rw [seven]
    isplitl [S0]; · iexact S0
    isplitl [S1]; · iexact S1
    isplitl [S2]; · iexact S2
    isplitl [S3]; · iexact S3
    isplitl [S4]; · iexact S4
    isplitl [S5]; · iexact S5
    iexact S6
  · rw [seven]
    isplitl [R0]; · iexact R0
    isplitl [R1]; · iexact R1
    isplitl [R2]; · iexact R2
    isplitl [R3]; · iexact R3
    isplitl [R4]; · iexact R4
    isplitl [R5]; · iexact R5
    iexact R6

end Cert.KernelIdeal.Ring
-- ==== Proof.Cover.lean ====
/-
  Every element of a device's result is stored by some hop.
-/
module

public import proofs.«01_k».proof.Proof.Max

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (c : Dev nD)

theorem ap_mem (f : OC F) (w : Wr F) (j : w.1.shape.Idx) : ap f w (w.1.emb j) = w.2 j :=
  View.read_slice_write_emb (v := oM.view) w.1 f w.2 (Finset.mem_univ j)
theorem ap_not (f : OC F) (w : Wr F) (i : S4096x256.Idx) (h : i ∉ w.1.set) : ap f w i = f i :=
  View.read_slice_write_of_not_mem (v := oM.view) w.1 f w.2 Finset.univ (by rw [Rect.map_emb_univ]; exact h)

/-- An index some store wrote holds what the stores say of it, when they agree on one function. -/
theorem stage_eq (l : List (Wr F)) (Y : OC F) (hY : ∀ w ∈ l, ∀ j, w.2 j = Y (w.1.emb j)) (i : S4096x256.Idx) (f : OC F)
    (h : f i = Y i ∨ ∃ w ∈ l, i ∈ w.1.set) : stage l f i = Y i := by
  induction l generalizing f with
  | nil =>
    rcases h with h | ⟨w, hw, -⟩
    · exact h
    · exact absurd hw List.not_mem_nil
  | cons w l ih =>
    show stage l (ap f w) i = Y i
    refine ih (fun w hw => hY w (List.mem_cons_of_mem _ hw)) (ap f w) ?_
    by_cases hi : i ∈ w.1.set
    · left
      obtain ⟨j, rfl⟩ : ∃ j, w.1.emb j = i := w.1.toLoadRect.exists_idx_of_mem hi
      rw [ap_mem, hY w List.mem_cons_self]
    · rcases h with h | ⟨w', hw, hi'⟩
      · left; rw [ap_not f w i hi]; exact h
      · rcases List.mem_cons.mp hw with rfl | hw
        · exact absurd hi' hi
        · exact .inr ⟨w', hw, hi'⟩

/-- An index some store wrote holds the same whatever was there before. -/
theorem stage_indep (l : List (Wr F)) (i : S4096x256.Idx) (f g : OC F) (h : f i = g i ∨ ∃ w ∈ l, i ∈ w.1.set) : stage l f i = stage l g i := by
  induction l generalizing f g with
  | nil =>
    rcases h with h | ⟨w, hw, -⟩
    · exact h
    · exact absurd hw List.not_mem_nil
  | cons w l ih =>
    show stage l (ap f w) i = stage l (ap g w) i
    refine ih (ap f w) (ap g w) ?_
    by_cases hi : i ∈ w.1.set
    · left
      obtain ⟨j, rfl⟩ : ∃ j, w.1.emb j = i := w.1.toLoadRect.exists_idx_of_mem hi
      rw [ap_mem, ap_mem]
    · rcases h with h | ⟨w', hw, hi'⟩
      · left; rw [ap_not f w i hi, ap_not g w i hi]; exact h
      · rcases List.mem_cons.mp hw with rfl | hw
        · exact absurd hi' hi
        · exact .inr ⟨w', hw, hi'⟩

/-! ## Every index is stored -/

theorem mem_wl (n : ℕ) : ∀ k : ℕ, ∀ w ∈ wl m c n, w ∈ wl m c (n + k)
  | 0, w, h => h
  | k + 1, w, h => by
    have := mem_wl n k w h
    show w ∈ wl m c (n + k + 1)
    unfold wl
    split
    · exact List.mem_append_left _ (List.mem_append_left _ this)
    · exact this

theorem mem_own (D : Bool) : ownW m D c ∈ wlEnd m c := by
  have h : ownW m D c ∈ wl m c 0 := by
    rw [wl]; cases D
    · exact List.mem_cons_of_mem _ List.mem_cons_self
    · exact List.mem_cons_self
  have h := mem_wl m c 0 6 _ h
  rw [Nat.zero_add] at h
  unfold wlEnd
  exact List.mem_append_left _ (List.mem_append_left _ (List.mem_append_left _ (List.mem_append_left _ h)))
theorem mem_hop (D : Bool) (h : Fin 6) : hopW m D h c ∈ wlEnd m c := by
  have h1 : hopW m D h c ∈ wl m c (h.val + 1) := by
    rw [wl_succ]; cases D
    · exact List.mem_append_right _ List.mem_cons_self
    · exact List.mem_append_left _ (List.mem_append_right _ List.mem_cons_self)
  have h1 := mem_wl m c (h.val + 1) (5 - h.val) _ h1
  rw [show h.val + 1 + (5 - h.val) = 6 by omega] at h1
  unfold wlEnd
  exact List.mem_append_left _ (List.mem_append_left _ (List.mem_append_left _ (List.mem_append_left _ h1)))
theorem mem_last (D : Bool) (s : Fin 2) : lastW m D s c ∈ wlEnd m c := by
  unfold wlEnd
  fin_cases s <;> cases D
  · exact List.mem_append_left _ (List.mem_append_left _ (List.mem_append_right _ List.mem_cons_self))
  · exact List.mem_append_left _ (List.mem_append_left _ (List.mem_append_left _ (List.mem_append_right _ List.mem_cons_self)))
  · exact List.mem_append_right _ List.mem_cons_self
  · exact List.mem_append_left _ (List.mem_append_right _ List.mem_cons_self)

theorem mem_wlEnd (w : Wr F) (h : w ∈ wlEnd m c) :
    (∃ D, w = ownW m D c) ∨ (∃ D h, w = hopW m D h c) ∨ (∃ D s, w = lastW m D s c) := by
  have h0 (n : ℕ) : ∀ w ∈ wl m c n, (∃ D, w = ownW m D c) ∨ (∃ D h, w = hopW m D h c) := by
    induction n with
    | zero =>
      intro w h
      rw [wl] at h
      rcases List.mem_cons.mp h with rfl | h
      · exact .inl ⟨true, rfl⟩
      rcases List.mem_cons.mp h with rfl | h
      · exact .inl ⟨false, rfl⟩
      · exact absurd h List.not_mem_nil
    | succ n ih =>
      intro w h
      unfold wl at h
      split at h
      · rcases List.mem_append.mp h with h | h
        · rcases List.mem_append.mp h with h | h
          · exact ih w h
          · exact .inr ⟨true, _, List.mem_singleton.mp h⟩
        · exact .inr ⟨false, _, List.mem_singleton.mp h⟩
      · exact ih w h
  unfold wlEnd at h
  rcases List.mem_append.mp h with h | h
  · rcases List.mem_append.mp h with h | h
    · rcases List.mem_append.mp h with h | h
      · rcases List.mem_append.mp h with h | h
        · rcases h0 6 w h with h | h
          · exact .inl h
          · exact .inr (.inl h)
        · exact .inr (.inr ⟨true, 0, List.mem_singleton.mp h⟩)
      · exact .inr (.inr ⟨false, 0, List.mem_singleton.mp h⟩)
    · exact .inr (.inr ⟨true, 1, List.mem_singleton.mp h⟩)
  · exact .inr (.inr ⟨false, 1, List.mem_singleton.mp h⟩)

theorem orig_onto : ∀ (D : Bool) (c o : Dev nD), ∃ n : Fin 8, orig D n.val c = o := by decide
theorem ownOff_eq' (D : Bool) : ownOff D c = ![512 * c.val + cond D 0 256, 0] := ownOff_eq D c

/-- Index `i` lies in the rows from `a` on. -/
theorem mem_rows (off : Fin 2 → ℕ) (a n : ℕ) (ho : off = ![a, 0]) (size : Fin 2 → ℕ) (hs : size = ![n, 256]) (inb : ∀ k, off k + size k ≤ S4096x256.size k)
    (i : S4096x256.Idx) (h1 : a ≤ (i 0).val) (h2 : (i 0).val < a + n) : i ∈ (Rect.unit (s := S4096x256) off size inb).set := by
  subst ho hs
  rw [Rect.mem_set_unit]
  intro k
  fin_cases k
  · exact ⟨h1, h2⟩
  · exact ⟨Nat.zero_le _, by show (i 1).val < 0 + 256; have : (i 1).val < 256 := (i 1).isLt; omega⟩

theorem covered (i : S4096x256.Idx) : ∃ w ∈ wlEnd m c, i ∈ w.1.set := by
  have hi : (i 0).val < 4096 := (i 0).isLt
  obtain ⟨D, hD1, hD2⟩ : ∃ D : Bool, cond D 0 256 ≤ (i 0).val % 512 ∧ (i 0).val % 512 < cond D 0 256 + 256 := by
    by_cases h : (i 0).val % 512 < 256
    · exact ⟨true, Nat.zero_le _, by show _ < 0 + 256; omega⟩
    · exact ⟨false, by show 256 ≤ _; omega, by show _ < 256 + 256; omega⟩
  obtain ⟨n, hn⟩ := orig_onto D c ⟨(i 0).val / 512, by show _ < 8; omega⟩
  have hov : (orig D n.val c).val = (i 0).val / 512 := congrArg Fin.val hn
  have hdm := Nat.div_add_mod (i 0).val 512
  by_cases h0 : n.val = 0
  · refine ⟨_, mem_own m c D, ?_⟩
    have ho : ownOff D c = ![512 * (orig D n.val c).val + cond D 0 256, 0] := by rw [h0, orig_zero]; exact ownOff_eq D c
    exact mem_rows _ _ 256 ho _ rfl (ownOff_inb D c) i (by omega) (by omega)
  by_cases h7 : n.val = 7
  · obtain ⟨s, hs1, hs2⟩ : ∃ s : Fin 2, cond D 0 256 + 128 * s.val ≤ (i 0).val % 512 ∧ (i 0).val % 512 < cond D 0 256 + 128 * s.val + 128 := by
      by_cases h : (i 0).val % 512 < cond D 0 256 + 128
      · exact ⟨0, by show _ + 128 * 0 ≤ _; omega, by show _ < _ + 128 * 0 + 128; omega⟩
      · exact ⟨1, by show _ + 128 * 1 ≤ _; omega, by show _ < _ + 128 * 1 + 128; omega⟩
    refine ⟨_, mem_last m c D s, ?_⟩
    have ho : lastOff D s c = ![512 * (orig D n.val c).val + cond D 0 256 + 128 * s.val, 0] := by rw [h7]; exact lastOff_eq D s c
    exact mem_rows _ _ 128 ho _ rfl (lastOff_inb D s c) i (by omega) (by omega)
  · refine ⟨_, mem_hop m c D ⟨n.val - 1, by omega⟩, ?_⟩
    have ho : hopOff D ⟨n.val - 1, by omega⟩ c = ![512 * (orig D n.val c).val + cond D 0 256, 0] := by
      rw [hopOff_eq]; show ![512 * (orig D (n.val - 1 + 1) c).val + _, 0] = _
      rw [show n.val - 1 + 1 = n.val by omega]
    exact mem_rows _ _ 256 ho _ rfl (hopOff_inb D _ c) i (by omega) (by omega)

/-- So the result buffer ends at `yv` whatever it held. -/
theorem stage_yv (f : OC F) : stage (wlEnd m c) f = yv m c :=
  funext fun i => stage_indep (wlEnd m c) i f _ (.inr (covered m c i))

end Cert.KernelIdeal.Ring
-- ==== Proof.Body.lean ====
/-
  The body of a device from start to end.
-/
module

public import proofs.«01_k».proof.Proof.Cover

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (K : Dev nD × Fin 39 → ℕ) (c : Dev nD)

theorem wp_finish (Q : PUnit → sProp 𝕄) :
    iprop(bufP c cc0_scratch8 (gaX m) ∗ outP c (wlEnd m c)
        ∗ ((bufP c cc0_scratch8 (gaX m) ∗ bufP c cc0_stg2_0 (outAt m c)) -∗ Q ⟨⟩))
      ⊢ WP c (finish (F := F)) Q := by
  have e1 : (gaM.view.readAt (Elt F) gaR.toLoadRect (gaX m)) = gaX m := Memref.readAt_unit_zero (Elt F) cc0_scratch8 hz2 _ _
  have e2 : (oM.view.readAt (Elt F) wR.toLoadRect (yv m c)) = yv m c := Memref.readAt_unit_zero (Elt F) cc0_stg2_0 hz2 _ _
  have e3 : ((oM.access wR : View sig .tc _ _ _).write (Elt F) (yv m c) (k0_pay1 (k0_pay39 (gaX m)) (yv m c)) Finset.univ) = outAt m c :=
    Memref.write_access_unit_zero_univ (Elt F) cc0_stg2_0 hz2 _ _ _
  have e0 : (outP c (wlEnd m c) : sProp 𝕄) ⊢ bufP c cc0_stg2_0 (yv m c) := by
    unfold outP
    iintro ⟨%f, H⟩
    rw [stage_yv]
    iexact H
  refine BIBase.Entails.trans (sep_mono BIBase.Entails.rfl (sep_mono e0 BIBase.Entails.rfl)) ?_
  unfold finish
  simp only [Prog.lift, Prog.bind_op, Prog.bind_ret]
  iintro ⟨Hg, Ho, Hk⟩
  iapply (wp_load 𝒱₀ (c : Thread nD τ) none Set.univ (m := gaM) (Finset.subset_univ _)) $$ Hg
  iintro Hg
  rw [e1]
  iapply (wp_load 𝒱₀ (c : Thread nD τ) none Set.univ (m := oM) (Finset.subset_univ _)) $$ Ho
  iintro Ho
  rw [e2]
  iapply (wp_load 𝒱₀ (c : Thread nD τ) none Set.univ (m := oM) (Finset.subset_univ _)) $$ Ho
  iintro Ho
  iapply (wp_store 𝒱₀ (c : Thread nD τ) none Set.univ (m := oM) (r := wR) (Mk := Finset.univ) (Finset.subset_univ _)) $$ Ho
  iintro Ho
  rw [e3, wp_ret]; imodintro
  iapply Hk
  isplitl [Hg]; · iexact Hg
  iexact Ho

/-- What device `c` starts the body with, -/
def Bs : sProp 𝕄 :=
  iprop(Sg m c ∗ rowP c c ∗ (∃ f, bufP c cc0_scratch7 f) ∗ (bigSep Finset.univ fun j => pos (dmaC c (asndSem j)) 0)
    ∗ (bigSep Finset.univ fun j => pos (dmaC c (arcvSem j)) 0))
/-- and what it ends it with. -/
def Be : sProp 𝕄 :=
  iprop((Ce c true 0 ∗ Ce c false 0 ∗ Ce c true 1 ∗ Ce c false 1) ∗ Gd m c ∗ pos (barC c) 1 ∗ bufP c cc0_scratch6 (wX m c)
    ∗ bufP c cc0_stg0_0 (xstg m c) ∗ bufP c cc0_stg1_0 (wstg m c) ∗ bufP c cc0_stg2_0 (outAt m c))

theorem wp_iter_at (n : ℕ) (h : Fin 6) (hn : h.val = n) (Q : F .f32 → sProp 𝕄) :
    iprop(env m K ∗ St m c n ∗ (St m c (n + 1) -∗ Q (mv m c (n + 1)))) ⊢ WP c (iter h c (mv m c n)) Q := by
  subst hn; exact wp_iter m K c h Q

theorem wp_dev {α : Type} (k : Dev nD → P F α) (Q : α → sProp 𝕄) : WP c (k c) Q ⊢ WP c (Prog.lift .deviceId >>= k) Q := by
  simp only [Prog.lift, Prog.bind_op, Prog.bind_ret]
  exact Entails.of_eq (wp_deviceId ..).symm

theorem body_split : body (F := F) = (do
    let d ← Prog.lift .deviceId
    let x ← begin' d
    let x ← iter 0 d x
    let x ← iter 1 d x
    let x ← iter 2 d x
    let x ← iter 3 d x
    let x ← iter 4 d x
    let x ← iter 5 d x
    let x ← lastHop d x
    putMax d x
    gather d
    finish) := by
  unfold body begin'
  simp only [bind_assoc]

theorem wp_body (Q : PUnit → sProp 𝕄) :
    iprop(env m K ∗ Bs m c ∗ (Be m c -∗ Q ⟨⟩)) ⊢ WP c (body (F := F)) Q := by
  rw [body_split]
  unfold Bs Be
  iintro ⟨#HE, ⟨HS, Hrow, Ha, HSn, HRn⟩, Hk⟩
  iapply (wp_dev c _ _)
  iapply (WP_bind c _ _ _)
  iapply (wp_begin m K c)
  isplitr; · iexact HE
  isplitl [HS]; · iexact HS
  iintro ⟨HS, Hb, Hx, Hw⟩
  iapply (WP_bind c _ _ _)
  iapply (wp_iter_at m K c 0 0 rfl)
  isplitr; · iexact HE
  isplitl [HS]; · iexact HS
  iintro HS
  iapply (WP_bind c _ _ _)
  iapply (wp_iter_at m K c 1 1 rfl)
  isplitr; · iexact HE
  isplitl [HS]; · iexact HS
  iintro HS
  iapply (WP_bind c _ _ _)
  iapply (wp_iter_at m K c 2 2 rfl)
  isplitr; · iexact HE
  isplitl [HS]; · iexact HS
  iintro HS
  iapply (WP_bind c _ _ _)
  iapply (wp_iter_at m K c 3 3 rfl)
  isplitr; · iexact HE
  isplitl [HS]; · iexact HS
  iintro HS
  iapply (WP_bind c _ _ _)
  iapply (wp_iter_at m K c 4 4 rfl)
  isplitr; · iexact HE
  isplitl [HS]; · iexact HS
  iintro HS
  iapply (WP_bind c _ _ _)
  iapply (wp_iter_at m K c 5 5 rfl)
  isplitr; · iexact HE
  isplitl [HS]; · iexact HS
  iintro HS
  iapply (WP_bind c _ _ _)
  iapply (wp_lastHop m K c)
  isplitr; · iexact HE
  isplitl [HS]; · iexact HS
  unfold En
  iintro ⟨HC, Hacc, HO, HT, HCr, Hwb, Ho⟩
  iapply (WP_bind c _ _ _)
  iapply (wp_putMax m c)
  isplitl [Ha]; · iexact Ha
  isplitl [Hrow]; · iexact Hrow
  iintro ⟨Ha, Hrow⟩
  iapply (WP_bind c _ _ _)
  iapply (wp_gather m K c)
  isplitr; · iexact HE
  isplitl [Ha]; · iexact Ha
  isplitl [Hrow]; · iexact Hrow
  isplitl [Hacc]; · iexact Hacc
  isplitl [HO]; · iexact HO
  isplitl [HT]; · iexact HT
  isplitl [HCr]; · iexact HCr
  isplitl [HSn]; · iexact HSn
  isplitl [HRn]; · iexact HRn
  unfold Gd
  iintro ⟨Hg, Ha, HO, HSn, HRn⟩
  iapply (wp_finish m c)
  isplitl [Hg]; · iexact Hg
  isplitl [Ho]; · iexact Ho
  iintro ⟨Hg, Ho⟩
  iapply Hk
  isplitl [HC]; · iexact HC
  isplitl [Hg Ha HO HSn HRn]
  · isplitl [Hg]; · iexact Hg
    isplitl [Ha]; · iexact Ha
    isplitl [HO]; · iexact HO
    isplitl [HSn]; · iexact HSn
    iexact HRn
  isplitl [Hb]; · iexact Hb
  isplitl [Hwb]; · iexact Hwb
  isplitl [Hx]; · iexact Hx
  isplitl [Hw]; · iexact Hw
  iexact Ho

end Cert.KernelIdeal.Ring
-- ==== Proof.Segs.lean ====
/-
  The two ring buffers as six segments each, cut and rejoined.
-/
module

public import proofs.«01_k».proof.Proof.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (c : Dev nD)

theorem seg_cover : (Finset.univ : Finset (Fin 3 × Fin 2)).biUnion (fun t => (segR t.1 t.2).set) = Finset.univ := by
  refine Finset.eq_univ_of_forall fun i => Finset.mem_biUnion.mpr ?_
  have h0 : (i 0).val < 3 := (i 0).isLt
  have h1 : (i 1).val < 256 := (i 1).isLt
  have h2 : (i 2).val < 4096 := (i 2).isLt
  refine ⟨(⟨(i 0).val, h0⟩, ⟨(i 1).val / 128, by omega⟩), Finset.mem_univ _, ?_⟩
  rw [Rect.mem_set_unit]
  intro a
  fin_cases a
  · exact ⟨Nat.le_refl _, Nat.lt_succ_self _⟩
  · exact ⟨by show 128 * ((i 1).val / 128) ≤ (i 1).val; omega, by show (i 1).val < 128 * ((i 1).val / 128) + 128; omega⟩
  · exact ⟨Nat.zero_le _, by show (i 2).val < 0 + 4096; omega⟩

abbrev segT (t : Fin 3 × Fin 2) : Rect S3x256x4096 := segR t.1 t.2
theorem segT_disj (t t' : Fin 3 × Fin 2) (h : t ≠ t') : Disjoint (segT t).set (segT t').set := seg_disj h

theorem slice_any (D : Bool) (t : Fin 3 × Fin 2) (X : Vec F S1x128x4096 .bf16) :
    (owns (c : Thread nD τ) ((bufM D).slice (segT t) (fun _ => rfl)) fullShare X : sProp 𝕄) ⊢ anySeg c D t.1 t.2 := by
  unfold anySeg
  iintro H
  ihave H := (show (owns (c : Thread nD τ) ((bufM D).slice (segT t) (fun _ => rfl)) fullShare X : sProp 𝕄)
    ⊢ iprop(∃ f, ⌜((bufM D).slice (segT t) (fun _ => rfl)).view.read (Elt F) f = X⌝ ∗ ((bufM D).view.loc (c : Thread nD τ) ↦[sgS (bufM D) t.1 t.2]{fullShare} f))
    from BIBase.Entails.rfl) $$ H
  icases H with ⟨%f, %hf, H⟩
  iexists (sgRd (bufM D) t.1 t.2 f)
  iapply (Entails.of_eq (owns_sg c (bufM D) t.1 t.2 fullShare _).symm)
  iexists f
  isplitr; · ipureintro; rfl
  iexact H

theorem any_slice (D : Bool) (t : Fin 3 × Fin 2) :
    (anySeg c D t.1 t.2 : sProp 𝕄) ⊢ ownsSat (c : Thread nD τ) ((bufM D).slice (segT t) (fun _ => rfl)) fullShare (fun _ => True) := by
  unfold anySeg ownsSat
  iintro ⟨%X, H⟩
  ihave H := (Entails.of_eq (owns_sg c (bufM D) t.1 t.2 fullShare X)) $$ H
  icases H with ⟨%f, -, H⟩
  iexists f
  isplitr; · ipureintro; trivial
  iexact H

theorem six (G : Fin 3 × Fin 2 → sProp 𝕄) : bigSep Finset.univ G = iprop(G (0, 0) ∗ G (1, 0) ∗ G (2, 0) ∗ G (0, 1) ∗ G (1, 1) ∗ G (2, 1)) :=
  bigSep_univ_eq_bigSepL [(0, 0), (1, 0), (2, 0), (0, 1), (1, 1), (2, 1)] (by decide) (by decide) G

/-- The three segments of a channel. -/
def seg3 (D : Bool) (s : Fin 2) : sProp 𝕄 := iprop(anySeg c D 0 s ∗ anySeg c D 1 s ∗ anySeg c D 2 s)

theorem six_seg (D : Bool) : (bigSep Finset.univ fun t : Fin 3 × Fin 2 => anySeg c D t.1 t.2 : sProp 𝕄) ⊢ iprop(seg3 c D 0 ∗ seg3 c D 1) := by
  refine (Entails.of_eq (six _)).trans ?_
  unfold seg3
  iintro ⟨H0, H1, H2, H3, H4, H5⟩
  isplitl [H0 H1 H2]
  · isplitl [H0]; · iexact H0
    isplitl [H1] <;> iassumption
  · isplitl [H3]; · iexact H3
    isplitl [H4] <;> iassumption
theorem seg_six (D : Bool) : iprop(seg3 c D 0 ∗ seg3 c D 1) ⊢ (bigSep Finset.univ fun t : Fin 3 × Fin 2 => anySeg c D t.1 t.2 : sProp 𝕄) := by
  refine BIBase.Entails.trans ?_ (Entails.of_eq (six _).symm)
  unfold seg3
  iintro ⟨⟨H0, H1, H2⟩, H3, H4, H5⟩
  isplitl [H0]; · iexact H0
  isplitl [H1]; · iexact H1
  isplitl [H2]; · iexact H2
  isplitl [H3]; · iexact H3
  isplitl [H4] <;> iassumption

theorem cut (D : Bool) (X : Vec F S3x256x4096 .bf16) :
    (owns (c : Thread nD τ) (bufM D) fullShare X : sProp 𝕄) ⊢ iprop(seg3 c D 0 ∗ seg3 c D 1) :=
  ((owns_rects (c : Thread nD τ) (bufM D) fullShare segT (fun _ _ => rfl) segT_disj seg_cover X).trans
    (bigSep_mono fun t _ => slice_any c D t _)).trans (six_seg c D)
theorem uncut (D : Bool) : iprop(seg3 c D 0 ∗ seg3 c D 1) ⊢ (iprop(∃ X, owns (c : Thread nD τ) (bufM D) fullShare X) : sProp 𝕄) :=
  (seg_six c D).trans ((bigSep_mono fun t _ => any_slice c D t).trans
    ((ownsSat_of_rects (c : Thread nD τ) (bufM D) fullShare segT (fun _ _ => rfl) segT_disj seg_cover (fun _ _ => True)).trans
      (ownsSat_any (c : Thread nD τ) (bufM D) fullShare)))

theorem cut_cw : (iprop(∃ f, bufP c cc0_scratch0 f) : sProp 𝕄) ⊢ iprop(seg3 c true 0 ∗ seg3 c true 1) := by
  iintro ⟨%f, H⟩
  iapply (cut c true f)
  iapply (Entails.of_eq (owns_whole (c : Thread nD τ) cc0_scratch0 fullShare f).symm); iexact H
theorem cut_ccw : (iprop(∃ f, bufP c cc0_scratch3 f) : sProp 𝕄) ⊢ iprop(seg3 c false 0 ∗ seg3 c false 1) := by
  iintro ⟨%f, H⟩
  iapply (cut c false f)
  iapply (Entails.of_eq (owns_whole (c : Thread nD τ) cc0_scratch3 fullShare f).symm); iexact H
theorem uncut_cw : iprop(seg3 c true 0 ∗ seg3 c true 1) ⊢ (iprop(∃ f, bufP c cc0_scratch0 f) : sProp 𝕄) := by
  iintro H
  ihave H := (uncut c true) $$ H
  icases H with ⟨%f, H⟩
  iexists f
  iapply (Entails.of_eq (owns_whole (c : Thread nD τ) cc0_scratch0 fullShare f)); iexact H
theorem uncut_ccw : iprop(seg3 c false 0 ∗ seg3 c false 1) ⊢ (iprop(∃ f, bufP c cc0_scratch3 f) : sProp 𝕄) := by
  iintro H
  ihave H := (uncut c false) $$ H
  icases H with ⟨%f, H⟩
  iexists f
  iapply (Entails.of_eq (owns_whole (c : Thread nD τ) cc0_scratch3 fullShare f)); iexact H

end Cert.KernelIdeal.Ring
-- ==== Proof.Cells.lean ====
/-
  The cells of a device one by one: at the start, and closed at the end.
-/
module

public import proofs.«01_k».proof.Proof.Segs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

variable (c : Dev nD)

/-- The cells of a channel. -/
def chan (Φ : SemLoc sig → sProp 𝕄) (D : Bool) (s : Fin 2) : sProp 𝕄 :=
  iprop((Φ (.dma (sndSem D 0 s)) ∗ Φ (.dma (sndSem D 1 s)) ∗ Φ (.dma (sndSem D 2 s)))
    ∗ (Φ (.dma (rcvSem D 0 s)) ∗ Φ (.dma (rcvSem D 1 s)) ∗ Φ (.dma (rcvSem D 2 s))))

theorem star_assoc (A B C : sProp 𝕄) : iprop((A ∗ B) ∗ C) = iprop(A ∗ B ∗ C) := BI.Entails.antisymm BI.sep_assoc BI.sep_assoc'

set_option maxRecDepth 4000 in
theorem cells_eq (Φ : SemLoc sig → sProp 𝕄) : (bigSep Finset.univ fun k : Fin 39 => Φ (csem k))
    = iprop(Φ (.reg barS) ∗ (chan Φ true 0 ∗ chan Φ false 0 ∗ chan Φ true 1 ∗ chan Φ false 1)
      ∗ (bigSep Finset.univ fun j => Φ (.dma (asndSem j))) ∗ bigSep Finset.univ fun j => Φ (.dma (arcvSem j))) := by
  rw [bigSep_univ_eq_bigSepL [0, 1, 3, 5, 7, 9, 11, 13, 15, 17, 19, 21, 23, 2, 4, 6, 8, 10, 12, 14, 16, 18, 20, 22, 24, 25, 26, 27, 28, 29, 30, 31, 32, 33, 34, 35, 36, 37, 38] (by decide) (by decide), seven, seven]
  unfold chan
  simp only [star_assoc]
  rfl

/-! ## Closing -/

variable (K : Dev nD × Fin 39 → ℕ)

/-- The cell at zero. -/
abbrev zero (c : Dev nD) (sm : SemLoc sig) : sProp 𝕄 := semVal ((c : Thread nD τ), sm) 0

theorem done_snd (D : Bool) (k : Fin 3) (s : Fin 2) (R : ℕ) (hR : 7 ≤ 3 * R + k.val) : ∀ r, R ≤ r → hasDuty (cid (sndSem D k s)) r = false :=
  fun r hr => by rw [cid_snd]; exact decide_eq_false (by omega)
theorem done_rcv (D : Bool) (k : Fin 3) (s : Fin 2) (R : ℕ) (hR : 7 ≤ 3 * R + (k.val + 2) % 3) : ∀ r, R ≤ r → hasDuty (cid (rcvSem D k s)) r = false :=
  fun r hr => by rw [cid_rcv]; exact decide_eq_false (by omega)
theorem done_asnd (j : Fin 7) : ∀ r, 1 ≤ r → hasDuty (cid (asndSem j)) r = false :=
  fun r hr => by rw [cid_asnd]; exact decide_eq_false (by omega)
theorem done_arcv (j : Fin 7) : ∀ r, 1 ≤ r → hasDuty (cid (arcvSem j)) r = false :=
  fun r hr => by rw [cid_arcv]; exact decide_eq_false (by omega)

theorem close_chan (D : Bool) (s : Fin 2) :
    iprop(env m K ∗ pos3 (sF c D s) 7 ∗ pos3 (rF c D s) 7) ⊢ iprop(|={Set.univ}=> chan (zero c) D s) := by
  unfold pos3 chan
  iintro ⟨#HE, ⟨S0, S1, S2⟩, R1, R2, R0⟩
  imod (close_dma m K c (sndSem D 0 s) (snd_ge D 0 s) 3 (done_snd D 0 s 3 (by decide))) $$ [S0] with S0
  · isplitr; · iexact HE
    iexact S0
  imod (close_dma m K c (sndSem D 1 s) (snd_ge D 1 s) 2 (done_snd D 1 s 2 (by decide))) $$ [S1] with S1
  · isplitr; · iexact HE
    iexact S1
  imod (close_dma m K c (sndSem D 2 s) (snd_ge D 2 s) 2 (done_snd D 2 s 2 (by decide))) $$ [S2] with S2
  · isplitr; · iexact HE
    iexact S2
  imod (close_dma m K c (rcvSem D 1 s) (rcv_ge D 1 s) 3 (done_rcv D 1 s 3 (by decide))) $$ [R1] with R1
  · isplitr; · iexact HE
    iexact R1
  imod (close_dma m K c (rcvSem D 2 s) (rcv_ge D 2 s) 2 (done_rcv D 2 s 2 (by decide))) $$ [R2] with R2
  · isplitr; · iexact HE
    iexact R2
  imod (close_dma m K c (rcvSem D 0 s) (rcv_ge D 0 s) 2 (done_rcv D 0 s 2 (by decide))) $$ [R0] with R0
  · isplitr; · iexact HE
    iexact R0
  imodintro
  isplitl [S0 S1 S2]
  · isplitl [S0]; · iexact S0
    isplitl [S1] <;> iassumption
  isplitl [R0]; · iexact R0
  isplitl [R1] <;> iassumption

theorem with_env {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_asnd : iprop(env m K ∗ bigSep Finset.univ fun j => pos (dmaC c (asndSem j)) 1)
    ⊢ iprop(|={Set.univ}=> bigSep Finset.univ fun j => zero c (.dma (asndSem j))) :=
  (with_env (R := env m K) fun j _ => close_dma m K c (asndSem j) (asnd_ge j) 1 (done_asnd j)).trans (bigSep_fupd _ _)
theorem close_arcv : iprop(env m K ∗ bigSep Finset.univ fun j => pos (dmaC c (arcvSem j)) 1)
    ⊢ iprop(|={Set.univ}=> bigSep Finset.univ fun j => zero c (.dma (arcvSem j))) :=
  (with_env (R := env m K) fun j _ => close_dma m K c (arcvSem j) (arcv_ge j) 1 (done_arcv j)).trans (bigSep_fupd _ _)

/-- Every cell of the device at zero. -/
def zeros : sProp 𝕄 := bigSep Finset.univ fun k : Fin 39 => zero c (csem k)

theorem close_all :
    iprop(env m K ∗ pos (barC c) 1 ∗ ((pos3 (sF c true 0) 7 ∗ pos3 (rF c true 0) 7) ∗ (pos3 (sF c false 0) 7 ∗ pos3 (rF c false 0) 7)
        ∗ (pos3 (sF c true 1) 7 ∗ pos3 (rF c true 1) 7) ∗ (pos3 (sF c false 1) 7 ∗ pos3 (rF c false 1) 7))
        ∗ (bigSep Finset.univ fun j => pos (dmaC c (asndSem j)) 1) ∗ bigSep Finset.univ fun j => pos (dmaC c (arcvSem j)) 1)
      ⊢ iprop(|={Set.univ}=> zeros c) := by
  unfold zeros
  rw [cells_eq (zero c)]
  iintro ⟨#HE, Hb, ⟨A, B, C, D⟩, HS, HR⟩
  imod (close_bar m K c) $$ [Hb] with Hb
  · isplitr; · iexact HE
    iexact Hb
  imod (close_chan m c K true 0) $$ [A] with A
  · isplitr; · iexact HE
    iexact A
  imod (close_chan m c K false 0) $$ [B] with B
  · isplitr; · iexact HE
    iexact B
  imod (close_chan m c K true 1) $$ [C] with C
  · isplitr; · iexact HE
    iexact C
  imod (close_chan m c K false 1) $$ [D] with D
  · isplitr; · iexact HE
    iexact D
  imod (close_asnd m c K) $$ [HS] with HS
  · isplitr; · iexact HE
    iexact HS
  imod (close_arcv m c K) $$ [HR] with HR
  · isplitr; · iexact HE
    iexact HR
  imodintro
  isplitl [Hb]; · iexact Hb
  isplitl [A B C D]
  · isplitl [A]; · iexact A
    isplitl [B]; · iexact B
    isplitl [C] <;> iassumption
  isplitl [HS] <;> iassumption

/-! ## The start -/

/-- Every cell of the device before its first round. -/
def pts : sProp 𝕄 := bigSep Finset.univ fun k : Fin 39 => pos (kcell (c, k)) 0

theorem pts_eq : (pts c : sProp 𝕄)
    ⊢ iprop(pos (barC c) 0 ∗ ((pos3 (sF c true 0) 0 ∗ pos3 (rF c true 0) 0) ∗ (pos3 (sF c false 0) 0 ∗ pos3 (rF c false 0) 0)
        ∗ (pos3 (sF c true 1) 0 ∗ pos3 (rF c true 1) 0) ∗ (pos3 (sF c false 1) 0 ∗ pos3 (rF c false 1) 0))
        ∗ (bigSep Finset.univ fun j => pos (dmaC c (asndSem j)) 0) ∗ bigSep Finset.univ fun j => pos (dmaC c (arcvSem j)) 0) := by
  have h (D : Bool) (s : Fin 2) : (chan (fun sm => pos ((c : Thread nD τ), sm) 0) D s : sProp 𝕄) ⊢ iprop(pos3 (sF c D s) 0 ∗ pos3 (rF c D s) 0) := by
    unfold chan pos3
    iintro ⟨HS, R0, R1, R2⟩
    isplitl [HS]; · iexact HS
    isplitl [R1]; · iexact R1
    isplitl [R2]; · iexact R2
    iexact R0
  unfold pts
  refine (Entails.of_eq (cells_eq fun sm => pos ((c : Thread nD τ), sm) 0)).trans ?_
  exact BIClass.sep_mono BIBase.Entails.rfl (BIClass.sep_mono (BIClass.sep_mono (h true 0) (BIClass.sep_mono (h false 0) (BIClass.sep_mono (h true 1) (h false 1)))) BIBase.Entails.rfl)

/-- What a device starts with, but for its buffers. -/
def start : sProp 𝕄 :=
  iprop(∃ K, env m K ∗ pts c ∗ toks c allPays ∗ crds c (rest 0) ∗ cred (tallyAt (barC c) 0 2))
/-- Its scratch, at any contents. -/
def scr : sProp 𝕄 :=
  iprop((∃ f, bufP c cc0_scratch0 f) ∗ (∃ f, bufP c cc0_scratch3 f) ∗ (∃ f, bufP c cc0_scratch6 f) ∗ (∃ f, bufP c cc0_scratch7 f)
    ∗ ∃ f, bufP c cc0_scratch8 f)

/-- The body from the start to the end, its buffers whole. -/
theorem wp_whole (Q : PUnit → sProp 𝕄) :
    iprop(start m c ∗ scr c ∗ Ow c allPays ∗ bufP c cc0_stg0_0 (xstg m c) ∗ bufP c cc0_stg1_0 (wstg m c) ∗ (∃ f, bufP c cc0_stg2_0 f)
        ∗ ((scr c ∗ zeros c ∗ Ow c [] ∗ bufP c cc0_stg0_0 (xstg m c) ∗ bufP c cc0_stg1_0 (wstg m c) ∗ bufP c cc0_stg2_0 (outAt m c)) -∗ Q ⟨⟩))
      ⊢ WP c (body (F := F)) Q := by
  unfold start scr
  iintro ⟨⟨%K, #HE, Hp, HT, HC, Hb⟩, ⟨S0, S3, S6, S7, S8⟩, HO, Hx, Hw, Ho, Hk⟩
  ihave Hp := (pts_eq c) $$ Hp
  icases Hp with ⟨Pb, ⟨PA, PB, PC, PD⟩, PS, PR⟩
  ihave S0 := (cut_cw c) $$ S0
  ihave S3 := (cut_ccw c) $$ S3
  ihave S8 := (ga_rows c) $$ S8
  icases S0 with ⟨A, C⟩
  icases S3 with ⟨B, D⟩
  icases S8 with ⟨Hr, Hg⟩
  iapply (wp_fupd frame (wpE (defs₀ (F := F)) 𝒱₀ (c : Thread nD τ) none) Set.univ (body (F := F)) Q)
  iapply (wp_body m K c fun a => iprop(|={Set.univ}=> Q a))
  isplitr; · iexact HE
  isplitr [Hk]
  · unfold Bs Sg Cs
    isplitr [Hr S7 PS PR]
    · isplitl [A B C D PA PB PC PD]
      · isplitl [A PA]
        · isplitl [A]; · unfold seg3; iexact A
          iexact PA
        isplitl [B PB]
        · isplitl [B]; · unfold seg3; iexact B
          iexact PB
        isplitl [C PC]
        · isplitl [C]; · unfold seg3; iexact C
          iexact PC
        isplitl [D]; · unfold seg3; iexact D
        iexact PD
      isplitl [Hg]; · iexact Hg
      isplitl [HO]; · iexact HO
      isplitl [HT]; · iexact HT
      isplitl [HC]; · iexact HC
      isplitl [Hb Pb]
      · isplitl [Hb] <;> iassumption
      isplitl [Hx]; · iexact Hx
      isplitl [Hw]; · iexact Hw
      isplitl [S6] <;> iassumption
    isplitl [Hr]; · iexact Hr
    isplitl [S7]; · iexact S7
    isplitl [PS] <;> iassumption
  unfold Be Gd Ce
  iintro ⟨⟨⟨A, PA⟩, ⟨B, PB⟩, ⟨C, PC⟩, ⟨D, PD⟩⟩, ⟨S8, S7, HO, PS, PR⟩, Pb, S6, Hx, Hw, Ho⟩
  imod (close_all m c K) $$ [Pb PA PB PC PD PS PR] with Hz
  · isplitr; · iexact HE
    isplitl [Pb]; · iexact Pb
    isplitl [PA PB PC PD]
    · isplitl [PA]; · iexact PA
      isplitl [PB]; · iexact PB
      isplitl [PC] <;> iassumption
    isplitl [PS] <;> iassumption
  imodintro
  iapply Hk
  isplitl [A B C D S6 S7 S8]
  · isplitl [A C]
    · iapply (uncut_cw c)
      unfold seg3
      isplitl [A] <;> iassumption
    isplitl [B D]
    · iapply (uncut_ccw c)
      unfold seg3
      isplitl [B] <;> iassumption
    isplitl [S6]; · iexists _; iexact S6
    isplitl [S7]; · iexists _; iexact S7
    iexists _; iexact S8
  isplitl [Hz]; · iexact Hz
  isplitl [HO]; · iexact HO
  isplitl [Hx]; · iexact Hx
  isplitl [Hw] <;> iassumption

end Cert.KernelIdeal.Ring
-- ==== Proof.Deal.lean ====
/-
  What the launch deals every device: its cells, the tokens of the payments it makes, the credit of those made to it.
-/
module

public import proofs.«01_k».proof.Proof.Cells

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The tokens, minted cell by cell and dealt payer by payer -/

/-- The duty of a payment, on the cell paid and on the payer's own. -/
def tk : Pay ⊕ Pay → SemLoc sig × ℕ × Bool
  | .inl p => (p.sem, p.rd, p.du)
  | .inr p => (p.ssem, p.rd, p.du)
theorem tk_injective : ∀ a b : Pay ⊕ Pay, tk a = tk b → a = b := by decide +kernel
def tokAt (ca : Dev nD × (Pay ⊕ Pay)) : GSem nD τ sig × ℕ × Bool := (((ca.1 : Thread nD τ), (tk ca.2).1), (tk ca.2).2)
theorem tokAt_injective : Function.Injective tokAt := by
  rintro ⟨c, a⟩ ⟨c', a'⟩ h
  have h1 : c = c' := congrArg (fun x : GSem nD τ sig × ℕ × Bool => x.1.1.1) h
  have h2 : tk a = tk a' := congrArg (fun x : GSem nD τ sig × ℕ × Bool => (x.1.2, x.2)) h
  rw [h1, tk_injective a a' h2]
def ringToks : Finset (GSem nD τ sig × ℕ × Bool) := Finset.univ.map ⟨tokAt, tokAt_injective⟩

theorem csem_injective : ∀ k k' : Fin 39, csem k = csem k' → k = k' := by decide +kernel
theorem kcell_injective : Function.Injective (kcell : Dev nD × Fin 39 → GSem nD τ sig) := by
  rintro ⟨c, k⟩ ⟨c', k'⟩ h
  have h1 : c = c' := congrArg (fun g : GSem nD τ sig => g.1.1) h
  rw [h1, csem_injective k k' (congrArg Prod.snd h)]
def ringCells : Finset (GSem nD τ sig) := Finset.univ.map ⟨kcell, kcell_injective⟩

def u₀ : UU := (initOf (Pipeline.cells cfgs cellOf_inj) (Pipeline.launchToks cfgs cellOf_inj), initOf ringCells ringToks)

abbrev dut (x : GSem nD τ sig × ℕ × Bool) : sProp 𝕄 := dutyTok ER x.1 x.2.1 x.2.2
/-- The tokens of device `c`'s own cells. -/
def mint (c : Dev nD) : sProp 𝕄 := bigSep Finset.univ fun a => dut (tokAt (c, a))

theorem toks_univ (c : Dev nD) : (toks c allPays : sProp 𝕄)
    = iprop((bigSep Finset.univ fun p : Pay => dut (tokAt (p.tgt c, .inl p))) ∗ bigSep Finset.univ fun p : Pay => dut (tokAt (c, .inr p))) := by
  unfold toks
  rw [← bigSep_univ_eq_bigSepL allPays allPays_univ allPays_nodup, ← bigSep_sep']
  rfl
theorem mint_eq (c : Dev nD) : (mint c : sProp 𝕄)
    = iprop((bigSep Finset.univ fun p : Pay => dut (tokAt (c, .inl p))) ∗ bigSep Finset.univ fun p : Pay => dut (tokAt (c, .inr p))) :=
  bigSep_univ_sum _

/-- Every device and payment: the device paid, and the payment. -/
def round : Dev nD × Pay ≃ Dev nD × Pay where
  toFun x := (x.2.tgt x.1, x.2)
  invFun x := (x.2.src x.1, x.2)
  left_inv x := Prod.ext (x.2.src_tgt x.1) rfl
  right_inv x := Prod.ext (x.2.tgt_src x.1) rfl

theorem deal : (bigSep Finset.univ fun c : Dev nD => (mint c : sProp 𝕄)) = bigSep Finset.univ fun c : Dev nD => toks c allPays := by
  have h : (bigSep Finset.univ fun c : Dev nD => bigSep Finset.univ fun p : Pay => (dut (tokAt (c, .inl p)) : sProp 𝕄))
      = bigSep Finset.univ fun c : Dev nD => bigSep Finset.univ fun p : Pay => dut (tokAt (p.tgt c, .inl p)) := by
    rw [← bigSep_univ_prod (fun x : Dev nD × Pay => (dut (tokAt (x.1, .inl x.2)) : sProp 𝕄)),
      bigSep_univ_equiv round (fun x : Dev nD × Pay => (dut (tokAt (x.1, .inl x.2)) : sProp 𝕄)),
      ← bigSep_univ_prod (fun x : Dev nD × Pay => (dut (tokAt (x.2.tgt x.1, .inl x.2)) : sProp 𝕄))]
    rfl
  rw [bigSep_congr (fun c _ => mint_eq c), bigSep_congr (fun c _ => toks_univ c), bigSep_sep', bigSep_sep', h]

/-! ## The cells -/

/-- What the launch element deals device `c`. -/
def G (c : Dev nD) : sProp 𝕄 :=
  iprop((bigSep Finset.univ fun k : Fin 39 => roundState ER (Rd m) (kcell (c, k)) 0)
    ∗ (bigSep Finset.univ fun k : Fin 39 => atPos ER (kcell (c, k)) 0 ∅ 0) ∗ (bigSep Finset.univ fun k : Fin 39 => reached ER (kcell (c, k)) 0) ∗ mint c)
/-- What every device has once the cells are in place. -/
def G' (c : Dev nD) : sProp 𝕄 := iprop(∃ K, records m K ∗ pts c ∗ toks c allPays)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 39 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The kernel's own semaphores: all but the three the staging uses. -/
abbrev osem (i : Fin 38) : SemLoc sig := .dma ⟨i.val + 3, by show _ < 41; omega⟩
theorem ownSemFacts : Pipeline.OwnSemFacts cfg0.spec osem := by decide +kernel

theorem fin39 (Φ : Fin 39 → sProp 𝕄) : bigSep Finset.univ Φ = iprop(Φ 0 ∗ bigSep Finset.univ fun i : Fin 38 => Φ i.succ) := by
  rw [Fin.univ_succ, Finset.cons_eq_insert, bigSep_insert (by simp), bigSep_map]; rfl
theorem unscoped_eq (c : Dev nD) : (unscopedSems0 c : sProp 𝕄) = semVal (barC c) 0 := by
  unfold unscopedSems0; rw [bigSep_eq_bigSepL_of_eq [SemLoc.reg barS] (by decide) (by decide)]; rfl
theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  unfold zeros
  rw [fin39, unscoped_eq]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 39 => atPos ER (kcell (c, k)) 0 ∅ 0) ∗ (bigSep Finset.univ fun k : Fin 39 => reached ER (kcell (c, k)) 0) ∗ mint c) := by
  have hv : iprop(Pipeline.ownSems0 (Ix := ℕ) (Name := ℕ) (U := UU) (Lvl := ℕ) (Val := Elt F) (τ := τ) osem c ∗ unscopedSems0 c)
      ⊢ (bigSep Finset.univ fun k : Fin 39 => semVal (kcell (c, k)) 0 : sProp 𝕄) := by
    refine BIBase.Entails.trans ?_ (Entails.of_eq (zeros_eq c).symm)
    iintro ⟨H1, H2⟩
    isplitl [H2] <;> iassumption
  unfold G
  iintro ⟨Hos, Hus, Hst, Hat, Hr, Htok⟩
  ihave Hv := hv $$ [Hos Hus]
  · isplitl [Hos] <;> iassumption
  imod (show iprop((bigSep Finset.univ fun k : Fin 39 => semVal (kcell (c, k)) 0) ∗ bigSep Finset.univ fun k : Fin 39 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem pts_of (K : Dev nD × Fin 39 → ℕ) (c : Dev nD) :
    iprop(records m K ∗ bigSep Finset.univ fun k : Fin 39 => atPos ER (kcell (c, k)) 0 ∅ 0) ⊢ (pts c : sProp 𝕄) := by
  unfold pts
  refine with_env (R := records m K) fun k _ => ?_
  unfold records pos
  iintro ⟨⟨#HI, #HR⟩, H⟩
  isplitl [H]; · iexact H
  iapply (reached_at (F := F) (c, k)); iexact HR

theorem give (K : Dev nD × Fin 39 → ℕ) (c : Dev nD) :
    iprop(records m K ∗ ((bigSep Finset.univ fun k : Fin 39 => atPos ER (kcell (c, k)) 0 ∅ 0) ∗ toks c allPays)) ⊢ G' m c := by
  unfold G'
  iintro ⟨#HR, Hat, HT⟩
  iexists K
  isplitr; · iexact HR
  isplitl [Hat]
  · iapply (pts_of m K c)
    isplitr; · iexact HR
    iexact Hat
  iexact HT

theorem regroup :
    (bigSep Finset.univ fun c : Dev nD => iprop((bigSep Finset.univ fun k => iprop(∃ κ : ℕ, cellInv ER (Rd m) κ (kcell (c, k))))
          ∗ (bigSep Finset.univ fun k : Fin 39 => atPos ER (kcell (c, k)) 0 ∅ 0) ∗ (bigSep Finset.univ fun k : Fin 39 => reached ER (kcell (c, k)) 0) ∗ mint c) : sProp 𝕄)
      ⊢ bigSep Finset.univ (G' m) := by
  rw [bigSep_sep', bigSep_sep', bigSep_sep', deal, ← bigSep_univ_prod (fun ck : Dev nD × Fin 39 => iprop(∃ κ : ℕ, cellInv ER (Rd m) κ (kcell ck))),
    ← bigSep_univ_prod (fun ck : Dev nD × Fin 39 => (reached ER (kcell ck) 0 : sProp 𝕄))]
  iintro ⟨HI, Hat, #HR, Htok⟩
  ihave HK := (BI.bigSep_exists_pi Finset.univ (fun (ck : Dev nD × Fin 39) (κ : ℕ) => (cellInv ER (Rd m) κ (kcell ck) : sProp 𝕄))) $$ HI
  icases HK with ⟨%K, #HI⟩
  iapply (with_env (R := records m K) fun c _ => give m K c)
  isplitr
  · unfold records; isplitl; · iexact HI
    iexact HR
  · iapply (Entails.of_eq (bigSep_sep' Finset.univ (fun c : Dev nD => bigSep Finset.univ fun k : Fin 39 => (atPos ER (kcell (c, k)) 0 ∅ 0 : sProp 𝕄))
      (fun c => toks c allPays)).symm)
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem credit (c : Dev nD) (l : List Pay) : (Pipeline.launchCred (fun d => owed d l) c : sProp 𝕄) ⊢ crds c l := by
  induction l with
  | nil => exact Entails.of_eq (Pipeline.launchCred_zero c)
  | cons p l ih =>
    refine (Entails.of_eq (Pipeline.launchCred_add (fun d => owed d l) (fun d => tallyAt (p.cell (p.tgt d)) p.ix p.amt) c)).trans ?_
    rw [crds_cons]
    iintro ⟨H1, H2⟩
    ihave H1 := ih $$ H1
    ihave H2 := (Pipeline.launchCred_tallyAt p.sem p.tgt p.src p.tgt_src p.src_tgt p.ix p.amt c) $$ H2
    isplitl [H2]; · unfold crd; iexact H2
    iexact H1

theorem credits (c : Dev nD) : (Pipeline.launchCred (fun d => owed d allPays) c : sProp 𝕄) ⊢ iprop(crds c (rest 0) ∗ cred (tallyAt (barC c) 0 2)) := by
  have h2 : (iprop(cred (tallyAt (barC c) 0 1) ∗ cred (tallyAt (barC c) 0 1)) : sProp 𝕄) ⊢ cred (tallyAt (barC c) 0 2) :=
    (cred_add _ _).2.trans (Entails.of_eq (congrArg cred (tallyAt_add (barC c) 0 1 1)))
  refine (credit c allPays).trans ?_
  unfold allPays
  rw [crds_cons, crds_cons]
  iintro ⟨Hf, Ht, Hr⟩
  isplitl [Hr]; · iexact Hr
  iapply h2
  isplitl [Hf]; · unfold crd; iexact Hf
  unfold crd; iexact Ht

theorem start_of (c : Dev nD) : iprop(levAts L lv ∗ Pipeline.launchCred (fun d => owed d allPays) c ∗ G' m c) ⊢ start m c := by
  unfold G' start env
  iintro ⟨#HL, HC, ⟨%K, #HR, Hp, HT⟩⟩
  ihave HC := (credits c) $$ HC
  icases HC with ⟨HC, Hb⟩
  iexists K
  isplitr
  · isplitr; · iexact HR
    iexact HL
  isplitl [Hp]; · iexact Hp
  isplitl [HT]; · iexact HT
  isplitl [HC] <;> iassumption

end Cert.KernelIdeal.Ring
-- ==== Proof.Run.lean ====
/-
  The run of @main on the mesh: the region's proof data, its body, the launch, what the arrays hold in the end.
-/
module

public import proofs.«01_k».proof.Proof.Deal
public import Idealize.ShloMosaic.Lib.Pipeline.Launch
public import Idealize.ShloMosaic.Lib.Pipeline.Kit
public import Idealize.ShloMosaic.Lib.Pipeline.Value
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ)

/-! ## The region's proof data -/

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => iprop(start m c ∗ scr c)
    | ⟨_ + 1, _⟩ => iprop(scr c ∗ zeros c)
  q _ := fullShare
  owed t := match t with
    | ⟨0, _⟩ => owed c allPays
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ bufP c b f) := by
  unfold owns bufP; simp only [Memref.view_whole, View.read_whole, View.set_whole]

/-- A staging buffer that holds `X`. -/
abbrev stgP (c : Dev nD) (b : Ref sig .tc) (X : b.ty.Contents (Elt F)) : sProp 𝕄 :=
  iprop(∃ f : Buf (Elt F) ((c : Thread nD τ).loc b), ⌜f = X⌝ ∗ bufP c b f)

def bodyPre (c : Dev nD) : sProp 𝕄 :=
  iprop((start m c ∗ scr c) ∗ (dats m 0 c).owesAt 0 t0_0.castSucc
    ∗ (∃ d, stgP c cc0_stg0_0 ((dats m 0 c).before (0 : Fin 3) t0_0 d))
    ∗ (∃ d, stgP c cc0_stg1_0 ((dats m 0 c).before (1 : Fin 3) t0_0 d))
    ∗ (∃ d, stgP c cc0_stg2_0 ((dats m 0 c).before (2 : Fin 3) t0_0 d)))
def bodyPost (c : Dev nD) : sProp 𝕄 :=
  iprop((scr c ∗ zeros c) ∗ (dats m 0 c).owesAt 0 t0_0.succ
    ∗ stgP c cc0_stg0_0 (xstg m c) ∗ stgP c cc0_stg1_0 (wstg m c) ∗ stgP c cc0_stg2_0 (outAt m c))

theorem before_0 (c : Dev nD) (d) : (dats m 0 c).before (0 : Fin 3) t0_0 d = xstg m c := by
  unfold Dat.before; rw [if_pos (fetch0_0 t0_0)]; rfl
theorem before_1 (c : Dev nD) (d) : (dats m 0 c).before (1 : Fin 3) t0_0 d = wstg m c := by
  unfold Dat.before; rw [if_pos (fetch0_1 t0_0)]; rfl

theorem owesAt_0 (c : Dev nD) : (dats m 0 c).owesAt 0 t0_0.castSucc ⊢ Ow c allPays := by
  unfold Dat.owesAt Pipeline.owesWithin Ow
  iintro ⟨%W, %hW, HO⟩
  iexists W; iexact HO
theorem owesAt_1 (c : Dev nD) : Ow c [] ⊢ (dats m 0 c).owesAt 0 t0_0.succ := by
  unfold Dat.owesAt Pipeline.owesWithin Ow
  iintro ⟨%W, HO⟩
  iexists W
  isplitr; · ipureintro; exact fun _ _ => Or.inl trivial
  iexact HO

theorem sound_body (c : Dev nD) : bodyPre m c ⊢ WP c (body (F := F)) (fun _ => bodyPost m c) := by
  unfold bodyPre stgP
  iintro ⟨⟨HS, HC⟩, Ho, ⟨%d0, %g0, %h0, Hx⟩, ⟨%d1, %g1, %h1, Hw⟩, ⟨%d2, %g2, %h2, Hout⟩⟩
  have hx : g0 = xstg m c := h0.trans (before_0 m c d0)
  have hw : g1 = wstg m c := h1.trans (before_1 m c d1)
  clear h0 h1 h2
  subst hx; subst hw
  ihave HO := (owesAt_0 m c) $$ Ho
  iapply (wp_whole m c (fun _ => bodyPost m c))
  isplitl [HS]; · iexact HS
  isplitl [HC]; · iexact HC
  isplitl [HO]; · iexact HO
  isplitl [Hx]; · iexact Hx
  isplitl [Hw]; · iexact Hw
  isplitl [Hout]; · iexists g2; iexact Hout
  iintro ⟨HC, HZ, HO, Hx, Hw, Hout⟩
  ihave Ho := (owesAt_1 m c) $$ HO
  unfold bodyPost stgP
  isplitl [HC HZ]; · isplitl [HC] <;> iassumption
  isplitl [Ho]; · iexact Ho
  isplitl [Hx]; · iexists _; isplitr; · (ipureintro; rfl)
                  iexact Hx
  isplitl [Hw]; · iexists _; isplitr; · (ipureintro; rfl)
                  iexact Hw
  iexists _; isplitr; · (ipureintro; rfl)
  iexact Hout

set_option maxRecDepth 100000 in
theorem body_obligation (c : Dev nD) : BodyObligation (dats (F := F) m 0 c) (defs₀ (F := F)) 𝒱₀ 0 Set.univ := fun t => by
  rw [fin_N0 t]
  rw [bigSep_W0, bigSep_W0]
  simp only [owns_whole_eq]
  have h := sound_body m c
  rw [← body_eq t0_0] at h
  exact h

theorem share_eq (c : Dev nD) (w : Fin cfg0.W) : (dats m 0 c).share w = fullShare := by unfold Dat.share; split <;> rfl

theorem lev_pos : ∀ p ∈ allPays, 0 < p.lev := fun p _ => by
  rcases p with D | ⟨h, D, s⟩ | j <;> exact Nat.zero_lt_succ _
theorem lv_stage (c : Dev nD) (w : Fin 3) (s : Fin (cfg0.win w).nbuf) : lv ((c : Thread nD τ), .dma ((cfg0.win w).sem s)) 0 = 0 := by
  fin_cases w <;> fin_cases s <;> rfl
theorem lv_stage_lt (c : Dev nD) (w : Fin 3) (s : Fin (cfg0.win w).nbuf) :
    ∀ p ∈ allPays, lv ((c : Thread nD τ), .dma ((cfg0.win w).sem s)) 0 < p.lev := fun p hp => by
  rw [lv_stage]; exact lev_pos p hp

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait c _ 0 (by decide) allPays (lv_stage_lt c w s)
    · exact mayWait c _ 0 (by decide) [] fun p hp => absurd hp List.not_mem_nil

/-! ## The launch -/

theorem start_intro (c : Dev nD) (r) :
    iprop(Pipeline.unscopedRestP Pipeline.Prefetch.none cfg0.spec c (fun b => m ((c : Thread nD τ).loc b)) ∗ levAts L lv
        ∗ Pipeline.launchCred (fun d => owed d allPays) c ∗ prngReg c r ∗ G' m c)
      ⊢ |={Set.univ}=> iprop(start m c ∗ emp) := by
  iintro ⟨-, Hlev, Hcr, -, HG⟩
  imodintro
  isplitl
  · iapply (start_of m c)
    isplitl [Hlev]; · iexact Hlev
    isplitl [Hcr] <;> iassumption
  · iempintro

theorem scr_eq (c : Dev nD) : (scr c : sProp 𝕄) = Pipeline.scopedRest cfg0.spec c := (scopedRest0_eq c).symm

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr c) from rfl, scr_eq]
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scr c ∗ zeros c) from rfl, scr_eq, zeros_eq]
  iintro ⟨Hr, HzU, HzO⟩
  isplitl [HzU]; · iexact HzU
  isplitl [HzO] <;> iassumption

set_option maxRecDepth 100000 in
theorem run_arrays (ρ) : θ_run defs (onTc (τ := τ) (main (F := F))) ⟨m, fun _ => 0, ρ⟩
    (fun r => (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d allPays) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m c (ρ c)) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold in the end -/

theorem final_x (c : Dev nD) : (dats m 0 c).arrAt (0 : Fin 3) cfg0.N = m ((c : Thread nD τ).loc main_arg0) :=
  (dats (F := F) m 0 c).arrAt_in (0 : Fin 3) rfl _
theorem final_w (c : Dev nD) : (dats m 0 c).arrAt (1 : Fin 3) cfg0.N = m ((c : Thread nD τ).loc main_arg1) :=
  (dats (F := F) m 0 c).arrAt_in (1 : Fin 3) rfl _

theorem read_x (f : main_arg0.ty.Contents (Elt F)) : (win0_0.blk (0 : Fin 1)).view.read (Elt F) f = f :=
  Memref.read_access_unit_zero (Elt F) main_arg0 (by funext a; fin_cases a <;> rfl) _ f
theorem read_w (f : main_arg1.ty.Contents (Elt F)) : (win0_1.blk (0 : Fin 1)).view.read (Elt F) f = f :=
  Memref.read_access_unit_zero (Elt F) main_arg1 (by funext a; fin_cases a <;> rfl) _ f
theorem read_o (f : main_v1.ty.Contents (Elt F)) : (win0_2.blk (0 : Fin 1)).view.read (Elt F) f = f :=
  Memref.read_access_unit_zero (Elt F) main_v1 (by funext a; fin_cases a <;> rfl) _ f

theorem final_o (c : Dev nD) : (dats m 0 c).arrAt (2 : Fin 3) cfg0.N = outAt m c := by
  have h : (win0_2.blk (0 : Fin 1)).view.read (Elt F) ((dats m 0 c).arrAt (2 : Fin 3) cfg0.N) = outAt m c := by
    rw [show cfg0.N = ((0 : Fin 1) : Fin cfg0.N).val + 1 from rfl, (dats m 0 c).arrAt_succ (2 : Fin 3) (0 : Fin 1)]
    rw [show (cfg0.win (2 : Fin 3)).flush (0 : Fin 1) = true from flush0_2 _, if_pos rfl]
    exact View.read_write_univ _ _
  exact (read_o _).symm.trans h

/-- From any memory with zero counters every execution of @main ends, with the counters at zero, its arguments as they
    were and every device's result array at `outAt`. -/
theorem run_main (ρ) : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun r h => ⟨fun c => ⟨(h.1 c (2 : Fin 3)).trans (final_o m c), (h.1 c (0 : Fin 3)).trans (final_x m c),
      (h.1 c (1 : Fin 3)).trans (final_w m c)⟩, h.2⟩) (run_arrays m ρ)

end Cert.KernelIdeal.Ring
-- ==== Proof.Same.lean ====
/-
  The kernel's text is its idealization's: the body tables of the two are one, for any float values.
-/
module

public import proofs.«01_k».proof.Defs
public import proofs.«01_k».proof.Proof.Gen.Kernel
public import proofs.«01_k».proof.Proof.Run

@[expose] public section

noncomputable section

namespace Cert.Proof

open Idealize.ShloMosaic Idealize.SL.Sem

variable {F : FTy → Type} [FloatOps F]

set_option maxRecDepth 100000 in
theorem body_same : Cert.Kernel.cc0_body (F := F) = Cert.KernelIdeal.cc0_body (F := F) := rfl

set_option maxRecDepth 100000 in
theorem defs₀_same : Cert.Kernel.defs₀ (F := F) = Cert.KernelIdeal.defs₀ (F := F) :=
  congrArg Defs.onTc (funext fun l => funext fun x => by
    rcases l with ⟨_ | n, h⟩
    · exact congrFun (congrFun (congrFun (congrFun (congrFun (congrFun (congrFun (congrFun (congrFun (congrFun (congrFun
        (congrFun (congrFun (congrFun (congrFun (congrFun (congrFun (congrFun (congrFun (congrFun (congrFun (congrFun body_same
        _) _) _) _) _) _) _) _) _) _) _) _) _) _) _) _) _) _) _) _) _) _
    · exact absurd h (Nat.not_lt.2 (Nat.le_add_left _ _)))

theorem defs_same : Cert.Kernel.defs (F := F) = Cert.KernelIdeal.defs (F := F) :=
  congrArg (Pipeline.defs Cert.KernelIdeal.pcfgs) defs₀_same

end Cert.Proof
-- ==== Proof.Ref.lean ====
/-
  The run of the reference: one device, a straight line of host operations over whole arrays.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## What it computes -/

abbrev Big : Type := FVec F S4096x2048 .f32

/-- The product. -/
def prod (x : FVec F S4096x4096 .bf16) (w : FVec F S4096x2048 .bf16) : FVec F S4096x2048 .f32 :=
  Host.dotGeneral dot_S4096x4096_S4096x2048_S4096x2048_1_0_0_1_n_n none (extf .f32 x bitsLt_bf16_f32) (extf .f32 w bitsLt_bf16_f32)
/-- The scale: the greatest magnitude over 127. -/
def scale (y : FVec F S4096x2048 .f32) : FVec F S_ .f32 :=
  Host.divf (Host.reduce FloatOps.maximumf (Host.absf y) (constant S_ .f32 0xFF800000#32) reducesTo_S4096x2048_S_d0_1 h_S_)
    (constant S_ .f32 0x42FE0000#32)
abbrev spread (v : FVec F S_ .f32) : FVec F S4096x2048 .f32 := broadcastInDim S4096x2048 ![] bcast_S_S4096x2048 v
/-- Rounded to the scale, clipped, and scaled back. -/
def quant (y : FVec F S4096x2048 .f32) : FVec F S4096x2048 .f32 :=
  mulf (minimumf (spread (constant S_ .f32 0x42FE0000#32)) (maximumf (spread (constant S_ .f32 0xC2FE0000#32))
    (Host.roundeven (Host.divf y (spread (scale y)))))) (spread (scale y))
def out (x : FVec F S4096x4096 .bf16) (w : FVec F S4096x2048 .bf16) : FVec F S4096x2048 .f32 := quant (prod x w)

/-! ## The run -/

abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S4096x4096_S4096x2048_S4096x2048_1_0_0_1_n_n none l r),
    unary main_v2 main_v3 Host.absf,
    nullary main_cst (constant S_ .f32 0xFF800000#32),
    binary main_v3 main_cst main_v4 (fun x v => Host.reduce FloatOps.maximumf x v reducesTo_S4096x2048_S_d0_1 h_S_),
    nullary main_cst_0 (constant S_ .f32 0x42FE0000#32),
    binary main_v4 main_cst_0 main_v5 Host.divf,
    unary main_v5 main_v6 spread,
    binary main_v2 main_v6 main_v7 Host.divf,
    unary main_v7 main_v8 Host.roundeven,
    nullary main_cst_1 (constant S_ .f32 0xC2FE0000#32),
    nullary main_cst_2 (constant S_ .f32 0x42FE0000#32),
    unary main_cst_1 main_call1_v0 id,
    unary main_call1_v0 main_call1_v1 spread,
    binary main_call1_v1 main_v8 main_call1_v2 maximumf,
    unary main_cst_2 main_call1_v3 id,
    unary main_call1_v3 main_call1_v4 spread,
    binary main_call1_v4 main_call1_v2 main_v9 minimumf,
    unary main_v5 main_v10 spread,
    binary main_v9 main_v10 main_v11 mulf ]

theorem main_eq (c : Dev nD) : main (F := F) c = seq ops := rfl

theorem out_eq (V : Valuation τ sig (Elt F)) :
    after ops V (main_v11 : DevRef τ sig) = out (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., unary_bufs_sub .., nullary_bufs_sub .., binary_bufs_sub ..,
    nullary_bufs_sub .., binary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.Run
-- ==== Proof.Dots.lean ====
/-
  The products on extended reals: each block a device stores is, element by element, the contraction of a row of `x` with a
  column of `w`, and so the result columns of the device are its block of the whole product.
-/
module

public import proofs.«01_k».proof.Proof.Cover
public import proofs.«01_k».proof.Proof.Run
public import proofs.«01_k».proof.Proof.Ref
public import Idealize.ShloMosaic.Lib.Layout
public import Idealize.ShloMosaic.Lib.MatmulPlain
public import Idealize.ShloMosaic.Lib.ValueIdx
public import Idealize.ShloMosaic.Lib.Pipeline.Value

@[expose] public section

noncomputable section

namespace Cert.KernelIdeal.Ring

open Idealize.ShloMosaic Idealize.ShloMosaic.TcCoe Idealize.SL Idealize.SL.Sem
open Idealize.ShloMosaic.ValueIdx
open Cert.KernelIdeal.Gen
open scoped BigOperators

variable (m : (ℓ : Loc nD τ sig) → Buf (Elt Ideal) ℓ)

/-! ## A block of the product at an index -/

theorem dot256 (X : Vec Ideal S1x256x4096 .bf16) (W : Vec Ideal S4096x256 .bf16) (j : S256x256.Idx) :
    k0_pay5 X W j = ∑ k : Fin 4096, X (ix3 (0 : Fin 1) (j 0) k) * W (ix2 k (j 1)) := by
  obtain ⟨r, c, rfl⟩ : ∃ (r : Fin 256) (c : Fin 256), j = ix2 r c := ⟨j 0, j 1, eq_ix2 j⟩
  refine Eq.trans (Ideal.matmul_plain_apply (φ₁ := .bf16) (φ₂ := .bf16) none
    (shapeCast S256x4096 X shapeCasts_S1x256x4096_S256x4096) W (constant S256x256 .f32 0x00000000#32) r c) ?_
  show Ideal.ofBits .f32 0x00000000#32 + _ = _
  rw [Ideal.ofBits_zero_f32, zero_add]
  refine Finset.sum_congr rfl fun k _ => ?_
  congr 1
  rw [shapeCast_dropUnit_apply ![256, 4096] X shapeCasts_S1x256x4096_S256x4096 (ix2 r k)]
  congr 1
  funext a; match a with | ⟨0, _⟩ => rfl | ⟨1, _⟩ => rfl | ⟨2, _⟩ => rfl
theorem dot128 (X : Vec Ideal S1x128x4096 .bf16) (W : Vec Ideal S4096x256 .bf16) (j : S128x256.Idx) :
    k0_pay30 X W j = ∑ k : Fin 4096, X (ix3 (0 : Fin 1) (j 0) k) * W (ix2 k (j 1)) := by
  obtain ⟨r, c, rfl⟩ : ∃ (r : Fin 128) (c : Fin 256), j = ix2 r c := ⟨j 0, j 1, eq_ix2 j⟩
  refine Eq.trans (Ideal.matmul_plain_apply (φ₁ := .bf16) (φ₂ := .bf16) none
    (shapeCast S128x4096 X shapeCasts_S1x128x4096_S128x4096) W (constant S128x256 .f32 0x00000000#32) r c) ?_
  show Ideal.ofBits .f32 0x00000000#32 + _ = _
  rw [Ideal.ofBits_zero_f32, zero_add]
  refine Finset.sum_congr rfl fun k _ => ?_
  congr 1
  rw [shapeCast_dropUnit_apply ![128, 4096] X shapeCasts_S1x128x4096_S128x4096 (ix2 r k)]
  congr 1
  funext a; match a with | ⟨0, _⟩ => rfl | ⟨1, _⟩ => rfl | ⟨2, _⟩ => rfl

/-- The reference's product at an index. -/
theorem prod_apply (x : FVec Ideal Cert.ReferenceIdeal.S4096x4096 .bf16) (w : FVec Ideal Cert.ReferenceIdeal.S4096x2048 .bf16)
    (i : Cert.ReferenceIdeal.S4096x2048.Idx) :
    Cert.ReferenceIdeal.Run.prod x w i = ∑ k : Fin 4096, x (ix2 (i 0) k) * w (ix2 k (i 1)) := by
  obtain ⟨r, c, rfl⟩ : ∃ (r : Fin 4096) (c : Fin 2048), i = ix2 r c := ⟨i 0, i 1, eq_ix2 i⟩
  have h := Ideal.matmul_plain_apply (φ₁ := .bf16) (φ₂ := .bf16) none x w (fun _ => (0 : EReal)) r c
  rw [zero_add] at h
  exact h

/-! ## What travels, at an index -/

theorem xstg_eq (o : Dev nD) : xstg m o = m ((o : Thread nD τ).loc main_arg0) := read_x _
theorem wstg_eq (c : Dev nD) : wstg m c = m ((c : Thread nD τ).loc main_arg1) := read_w _

theorem slotX_apply (D : Bool) (o : Dev nD) (r : Fin 256) (k : Fin 4096) :
    slotX m D o (ix3 (0 : Fin 1) r k) = m ((o : Thread nD τ).loc main_arg0) ((xhR D).emb (ix2 r k)) := by
  unfold slotX k0_pay2
  rw [xstg_eq, shapeCast_self, shapeCast_addUnit_apply ![256, 4096] _ shapeCasts_S256x4096_S1x256x4096 (ix3 (0 : Fin 1) r k)]
  show m ((o : Thread nD τ).loc main_arg0) ((xhR D).emb _) = _
  congr 2
  funext a; match a with | ⟨0, _⟩ => rfl | ⟨1, _⟩ => rfl
theorem segL_apply (D : Bool) (o : Dev nD) (s : Fin 2) (r : Fin 128) (k : Fin 4096) :
    segL m D o s (ix3 (0 : Fin 1) r k)
      = m ((o : Thread nD τ).loc main_arg0) ((xhR D).emb (ix2 ⟨128 * s.val + r.val, by omega⟩ k)) := by
  refine Eq.trans ?_ (slotX_apply m D o ⟨128 * s.val + r.val, by omega⟩ k)
  unfold segL
  congr 1
  funext a; apply Fin.ext
  match a with
  | ⟨0, _⟩ => rfl
  | ⟨1, _⟩ => show 128 * s.val + 1 * r.val = 128 * s.val + r.val; omega
  | ⟨2, _⟩ => show 0 + 1 * k.val = k.val; omega
theorem wX_eq (c : Dev nD) : wX m c = m ((c : Thread nD τ).loc main_arg1) := by
  unfold wX k0_pay4
  simp only [shapeCast_self]
  exact wstg_eq m c

/-! ## The columns a device ends with -/

variable (x : FVec Ideal Cert.ReferenceIdeal.S4096x4096 .bf16) (w : FVec Ideal Cert.ReferenceIdeal.S4096x2048 .bf16)

/-- The launch memory holds the whole arrays `x` and `w` in blocks. -/
def Placed : Prop := ∀ c : Dev nD,
  m ((c : Thread nD τ).loc main_arg0) = Layout.block ⟨2, ![512, 4096]⟩ ⟨2, ![4096, 4096]⟩ 0 8 c x
  ∧ m ((c : Thread nD τ).loc main_arg1) = Layout.block ⟨2, ![4096, 256]⟩ ⟨2, ![4096, 2048]⟩ 1 8 c w

/-- Device `c`'s columns of the product. -/
def part (c : Dev nD) : OC Ideal :=
  Layout.block ⟨2, ![4096, 256]⟩ ⟨2, ![4096, 2048]⟩ 1 8 c (Cert.ReferenceIdeal.Run.prod x w)

variable {m x w}

theorem x_apply (hp : Placed m x w) (o : Dev nD) (i : S512x4096.Idx) (row : Fin 4096) (k : Fin 4096)
    (h0 : row.val = 512 * o.val + (i 0).val) (h1 : (i 1).val = k.val) :
    m ((o : Thread nD τ).loc main_arg0) i = x (ix2 row k) := by
  rw [(hp o).1, Layout.block_apply]
  congr 1
  funext a; apply Fin.ext
  match a with
  | ⟨0, _⟩ => show o.val * 512 + (i 0).val = row.val; omega
  | ⟨1, _⟩ => exact h1
theorem w_apply (hp : Placed m x w) (c : Dev nD) (k : Fin 4096) (j : Fin 256) (col : Fin 2048) (h : col.val = 256 * c.val + j.val) :
    m ((c : Thread nD τ).loc main_arg1) (ix2 k j) = w (ix2 k col) := by
  rw [(hp c).2, Layout.block_apply]
  congr 1
  funext a; apply Fin.ext
  match a with
  | ⟨0, _⟩ => rfl
  | ⟨1, _⟩ => show c.val * 256 + j.val = col.val; omega
theorem part_apply (c : Dev nD) (i : S4096x256.Idx) (row : Fin 4096) (col : Fin 2048)
    (h0 : (i 0).val = row.val) (h1 : col.val = 256 * c.val + (i 1).val) :
    part x w c i = ∑ k : Fin 4096, x (ix2 row k) * w (ix2 k col) := by
  have e : (show Layout.Tiles ⟨2, ![4096, 256]⟩ ⟨2, ![4096, 2048]⟩ 1 8 by decide).idx c i = ix2 row col := by
    funext a; apply Fin.ext
    match a with
    | ⟨0, _⟩ => exact h0
    | ⟨1, _⟩ => show c.val * 256 + (i 1).val = col.val; omega
  unfold part
  rw [Layout.block_apply, e, prod_apply]

/-- A stored block of 256 rows of device `o`. -/
theorem block256 (hp : Placed m x w) (D : Bool) (o c : Dev nD) (off : Fin 2 → ℕ) (ho : off = ![512 * o.val + cond D 0 256, 0])
    (inb : ∀ a, off a + S256x256.size a ≤ S4096x256.size a) (j : S256x256.Idx) :
    k0_pay5 (slotX m D o) (wX m c) j = part x w c ((Rect.unit (s := S4096x256) off S256x256.size inb).emb j) := by
  subst ho
  have h0 : (j 0).val < 256 := (j 0).isLt
  have h1 : (j 1).val < 256 := (j 1).isLt
  have hc : c.val < 8 := c.isLt
  have hr := inb 0
  rw [dot256, part_apply c _ ⟨512 * o.val + cond D 0 256 + (j 0).val, by
    have : 512 * o.val + cond D 0 256 + 256 ≤ 4096 := hr; omega⟩ ⟨256 * c.val + (j 1).val, by omega⟩
    (by show 512 * o.val + cond D 0 256 + 1 * (j 0).val = 512 * o.val + cond D 0 256 + (j 0).val; omega) (by show 256 * c.val + (j 1).val = 256 * c.val + (0 + 1 * (j 1).val); omega)]
  refine Finset.sum_congr rfl fun k _ => ?_
  rw [wX_eq]
  refine congrArg₂ (· * ·) ((slotX_apply m D o (j 0) k).trans (x_apply hp o _ _ k ?_ ?_)) (w_apply hp c k (j 1) _ rfl)
  · show 512 * o.val + cond D 0 256 + (j 0).val = 512 * o.val + (cond D 0 256 + 1 * (j 0).val); omega
  · show 0 + 1 * k.val = k.val; omega
/-- A stored block of 128 rows of device `o`. -/
theorem block128 (hp : Placed m x w) (D : Bool) (o c : Dev nD) (s : Fin 2) (off : Fin 2 → ℕ)
    (ho : off = ![512 * o.val + cond D 0 256 + 128 * s.val, 0])
    (inb : ∀ a, off a + S128x256.size a ≤ S4096x256.size a) (j : S128x256.Idx) :
    k0_pay30 (segL m D o s) (wX m c) j = part x w c ((Rect.unit (s := S4096x256) off S128x256.size inb).emb j) := by
  subst ho
  have h0 : (j 0).val < 128 := (j 0).isLt
  have h1 : (j 1).val < 256 := (j 1).isLt
  have hc : c.val < 8 := c.isLt
  have hr := inb 0
  rw [dot128, part_apply c _ ⟨512 * o.val + cond D 0 256 + 128 * s.val + (j 0).val, by
    have : 512 * o.val + cond D 0 256 + 128 * s.val + 128 ≤ 4096 := hr; omega⟩ ⟨256 * c.val + (j 1).val, by omega⟩
    (by show 512 * o.val + cond D 0 256 + 128 * s.val + 1 * (j 0).val = 512 * o.val + cond D 0 256 + 128 * s.val + (j 0).val; omega)
    (by show 256 * c.val + (j 1).val = 256 * c.val + (0 + 1 * (j 1).val); omega)]
  refine Finset.sum_congr rfl fun k _ => ?_
  rw [wX_eq]
  refine congrArg₂ (· * ·) ((segL_apply m D o s (j 0) k).trans (x_apply hp o _ _ k ?_ ?_)) (w_apply hp c k (j 1) _ rfl)
  · show 512 * o.val + cond D 0 256 + 128 * s.val + (j 0).val = 512 * o.val + (cond D 0 256 + 1 * (128 * s.val + (j 0).val)); omega
  · show 0 + 1 * k.val = k.val; omega

theorem own_part (hp : Placed m x w) (D : Bool) (c : Dev nD) (j : (ownW m D c).1.shape.Idx) :
    (ownW m D c).2 j = part x w c ((ownW m D c).1.emb j) := by
  have h := block256 hp D c c (ownOff D c) (ownOff_eq D c) (ownOff_inb D c) j
  cases D <;> exact h
theorem hop_part (hp : Placed m x w) (D : Bool) (h : Fin 6) (c : Dev nD) (j : (hopW m D h c).1.shape.Idx) :
    (hopW m D h c).2 j = part x w c ((hopW m D h c).1.emb j) := by
  have e := block256 hp D (orig D (h.val + 1) c) c (hopOff D h c) (hopOff_eq D h c) (hopOff_inb D h c) j
  cases D <;> exact e
theorem last_part (hp : Placed m x w) (D : Bool) (s : Fin 2) (c : Dev nD) (j : (lastW m D s c).1.shape.Idx) :
    (lastW m D s c).2 j = part x w c ((lastW m D s c).1.emb j) :=
  block128 hp D (orig D 7 c) c s (lastOff D s c) (lastOff_eq D s c) (lastOff_inb D s c) j

/-- Every store agrees with the device's columns of the product. -/
theorem stored (hp : Placed m x w) (c : Dev nD) : ∀ v ∈ wlEnd m c, ∀ j, v.2 j = part x w c (v.1.emb j) := by
  intro v hv j
  rcases mem_wlEnd m c v hv with ⟨D, rfl⟩ | ⟨D, h, rfl⟩ | ⟨D, s, rfl⟩
  · exact own_part hp D c j
  · exact hop_part hp D h c j
  · exact last_part hp D s c j
theorem yv_eq (hp : Placed m x w) (c : Dev nD) : yv m c = part x w c :=
  funext fun i => stage_eq (wlEnd m c) _ (stored hp c) i _ (.inr (covered m c i))

end Cert.KernelIdeal.Ring
-- ==== Proof.Peak.lean ====
/-
  The greatest magnitude on extended reals: the maximum the kernel carries block by block and gathers over the devices is
  the greatest magnitude of the whole product, which the reference takes by one reduction. Both are known by what is above
  them.
-/
module

public import proofs.«01_k».proof.Proof.Dots
public import Idealize.ShloMosaic.PureOps.Ideal.Laws
public import Idealize.ShloMosaic.PureOps.Reduce
public import Idealize.ShloMosaic.Lib.ValueIdxCoords

@[expose] public section

noncomputable section

namespace Cert.KernelIdeal.Ring

open Idealize.ShloMosaic Idealize.ShloMosaic.TcCoe Idealize.SL Idealize.SL.Sem
open Idealize.ShloMosaic.ValueIdx
open Cert.KernelIdeal.Gen

/-- The magnitude. -/
abbrev mag (a : EReal) : EReal := max a (-a)

theorem ninf : Ideal.ofBits .f32 0xFF800000#32 = ⊥ := by simp [Ideal.ofBits, Ideal.ieee]

theorem reduce_le {s : Shape} {axes : List (Fin s.rank)} (src : FVec Ideal s .f32) (h : s.Reduces axes S1)
    (hφ : FKind.Formats .f32) (hacc : (0xFF800000#32 : BitVec (FTy.bits .f32)) = FKind.maximumf.neutral .f32 hφ) (j : S1.Idx) (b : EReal) :
    (multiReduction .maximumf axes S1 src 0xFF800000#32 h hφ hacc j : EReal) ≤ b ↔ ∀ i, (src i : EReal) ≤ b := by
  have e := multiReduction_maximumf_eq_fold (F := Ideal) (φ := .f32) src 0xFF800000#32 h hφ hacc j
  refine (iff_of_eq (congrArg (fun t : EReal => t ≤ b) e)).trans ((Finset.fold_max_le (β := EReal) b).trans ?_)
  constructor
  · rintro ⟨-, h2⟩ i
    exact h2 i (Finset.mem_filter.mpr ⟨Finset.mem_univ _, (eq_ix1_u0 _).trans (eq_ix1_u0 _).symm⟩)
  · intro h2
    exact ⟨(le_of_eq ninf).trans bot_le, fun i _ => h2 i⟩
theorem cast_le {s t : Shape} (v : FVec Ideal s .f32) (h : s.ShapeCasts t) (b : EReal) :
    (∀ i, shapeCast t v h i ≤ b) ↔ ∀ i, v i ≤ b :=
  ⟨fun e i => by
    have := e ((Shape.reshapeEquiv h).symm i)
    unfold shapeCast at this
    rwa [Equiv.apply_symm_apply] at this, fun e i => e _⟩

section Any
variable {F : FTy → Type} [FloatOps F]
/-- The maximum the kernel takes of a block. -/
def red {s : Shape} {axes : List (Fin s.rank)} (src : FVec F s .f32) (h : s.Reduces axes S1) : F .f32 :=
  extractAt ![0, 0, 0] (shapeCast S1x1x1 (multiReduction .maximumf axes S1 src 0xFF800000#32 h (.inl rfl) rfl) shapeCasts_S1_S1x1x1) inpos_S1x1x1_p0_0_0
/-- The magnitudes of a block, as a reduction reads them. -/
def mags256 (u : FVec F S256x256 .f32) : FVec F S1x256x256 .f32 := shapeCast S1x256x256 (absf u) shapeCasts_S256x256_S1x256x256
def mags128 (u : FVec F S128x256 .f32) : FVec F S1x128x256 .f32 := shapeCast S1x128x256 (absf u) shapeCasts_S128x256_S1x128x256
theorem pay7_eq (X : Vec F S1x256x4096 .bf16) (W : Vec F S4096x256 .bf16) : k0_pay7 X W = mags256 (k0_pay5 X W) := rfl
theorem pay8_eq (u v : FVec F S256x256 .f32) :
    k0_pay8 v (mags256 u) = Scalar.maximumf (red (mags256 u) reduces_S1x256x256_S1) (red (mags256 v) reduces_S1x256x256_S1) := rfl
theorem pay16_eq (y : F .f32) (X : Vec F S1x256x4096 .bf16) (W : Vec F S4096x256 .bf16) (X' : Vec F S1x256x4096 .bf16)
    (W' : Vec F S4096x256 .bf16) : k0_pay16 y X W X' W' = Scalar.maximumf y
      (Scalar.maximumf (red (mags256 (k0_pay14 X W)) reduces_S1x256x256_S1) (red (mags256 (k0_pay15 X' W')) reduces_S1x256x256_S1)) := rfl
theorem pay31_eq (y : F .f32) (X : Vec F S1x128x4096 .bf16) (W : Vec F S4096x256 .bf16) :
    k0_pay31 y X W = Scalar.maximumf y (red (mags128 (k0_pay30 X W)) reduces_S1x128x256_S1) := rfl
theorem pay39_eq (g : Vec F S8x128 .f32) :
    extractAt ![0, 0, 0] (k0_pay39 g) inpos_S1x1x1_p0_0_0 = red (shapeCast S1x8x128 g shapeCasts_S8x128_S1x8x128) reduces_S1x8x128_S1 := rfl
theorem gaX_apply (m : (ℓ : Loc nD τ sig) → Buf (Elt F) ℓ) (i : S8x128.Idx) : gaX m i = mvEnd m (i 0) := rfl
theorem mags_peak (m : (ℓ : Loc nD τ sig) → Buf (Elt F) ℓ) :
    extractAt ![0, 0, 0] (k0_pay39 (gaX m)) inpos_S1x1x1_p0_0_0
      = red (shapeCast S1x8x128 (fun i => mvEnd m (i 0) : FVec F S8x128 .f32) shapeCasts_S8x128_S1x8x128) reduces_S1x8x128_S1 := by
  rw [← show gaX m = (fun i => mvEnd m (i 0) : FVec F S8x128 .f32) from funext (gaX_apply m)]; exact pay39_eq (gaX m)
end Any

theorem smax (a b : Ideal .f32) : Scalar.maximumf a b = max a b := rfl
theorem red_le {s : Shape} {axes : List (Fin s.rank)} (src : FVec Ideal s .f32) (h : s.Reduces axes S1) (b : EReal) :
    (red src h : EReal) ≤ b ↔ ∀ i, (src i : EReal) ≤ b := reduce_le src h (.inl rfl) rfl _ b
theorem mags256_le (u : FVec Ideal S256x256 .f32) (b : EReal) : (red (mags256 u) reduces_S1x256x256_S1 : EReal) ≤ b ↔ ∀ i, mag (u i) ≤ b :=
  (red_le _ _ b).trans (cast_le (absf u) _ b)
theorem mags128_le (u : FVec Ideal S128x256 .f32) (b : EReal) : (red (mags128 u) reduces_S1x128x256_S1 : EReal) ≤ b ↔ ∀ i, mag (u i) ≤ b :=
  (red_le _ _ b).trans (cast_le (absf u) _ b)

variable (m : (ℓ : Loc nD τ sig) → Buf (Elt Ideal) ℓ)
variable (c : Dev nD)

theorem max_iff {a b : Ideal .f32} (y : EReal) {p q : Prop} (ha : (a : EReal) ≤ y ↔ p) (hb : (b : EReal) ≤ y ↔ q) :
    (Scalar.maximumf a b : EReal) ≤ y ↔ p ∧ q :=
  (iff_of_eq (congrArg (fun t : EReal => t ≤ y) (smax a b))).trans (max_le_iff.trans (and_congr ha hb))
theorem le_of_form {a a' : EReal} (h : a = a') {y : EReal} {p : Prop} (hp : a' ≤ y ↔ p) : a ≤ y ↔ p := by rw [h]; exact hp

theorem mv_zero_le (b : EReal) : (mv m c 0 : EReal) ≤ b ↔ (∀ j, mag ((ownW m true c).2 j) ≤ b) ∧ ∀ j, mag ((ownW m false c).2 j) ≤ b :=
  le_of_form (pay8_eq (F := Ideal) (k0_pay5 (slotX m true c) (wX m c)) (k0_pay6 (slotX m false c) (wX m c)))
    (max_iff b (mags256_le _ b) (mags256_le _ b))
theorem mv_succ_le (h : Fin 6) (b : EReal) : (mv m c (h.val + 1) : EReal) ≤ b
    ↔ (mv m c h.val : EReal) ≤ b ∧ (∀ j, mag ((hopW m true h c).2 j) ≤ b) ∧ ∀ j, mag ((hopW m false h c).2 j) ≤ b :=
  le_of_form (pay16_eq (F := Ideal) (mv m c h.val) (slotX m true (orig true (h.val + 1) c)) (wX m c) (slotX m false (orig false (h.val + 1) c)) (wX m c))
    (max_iff b Iff.rfl (max_iff b (mags256_le _ b) (mags256_le _ b)))
theorem mvl_le (y : Ideal .f32) (D : Bool) (s : Fin 2) (b : EReal) :
    (mvl m c y D s : EReal) ≤ b ↔ (y : EReal) ≤ b ∧ ∀ j, mag ((lastW m D s c).2 j) ≤ b :=
  le_of_form (pay31_eq (F := Ideal) y (segL m D (orig D 7 c) s) (wX m c)) (max_iff b Iff.rfl (mags128_le _ b))

theorem mv_le (n : ℕ) (hn : n ≤ 6) (b : EReal) : (mv m c n : EReal) ≤ b ↔ ∀ v ∈ wl m c n, ∀ j, mag (v.2 j) ≤ b := by
  induction n with
  | zero => rw [mv_zero_le, wl]; simp only [List.forall_mem_cons, List.not_mem_nil, false_imp_iff, implies_true, and_true]
  | succ n ih =>
    rw [mv_succ_le m c ⟨n, hn⟩, wl_succ m c ⟨n, hn⟩]
    simp only [List.forall_mem_append, List.forall_mem_singleton]
    rw [ih (by omega), and_assoc]
theorem mvEnd_le (b : EReal) : (mvEnd m c : EReal) ≤ b ↔ ∀ v ∈ wlEnd m c, ∀ j, mag (v.2 j) ≤ b := by
  unfold mvEnd wlEnd
  rw [mvl_le, mvl_le, mvl_le, mvl_le, mv_le m c 6 le_rfl]
  simp only [List.forall_mem_append, List.forall_mem_singleton]

/-- All the maxima, over the whole product. -/
theorem rows_le (f : Dev nD → Ideal .f32) (b : EReal) :
    (∀ i : S8x128.Idx, (f (i 0) : EReal) ≤ b) ↔ ∀ c, (f c : EReal) ≤ b :=
  ⟨fun h c => h (ix2 c (0 : Fin 128)), fun h i => h _⟩
theorem peak_le (b : EReal) : (extractAt ![0, 0, 0] (k0_pay39 (gaX m)) inpos_S1x1x1_p0_0_0 : EReal) ≤ b ↔ ∀ c, (mvEnd m c : EReal) ≤ b := by
  have h := cast_le (fun i => mvEnd m (i 0) : FVec Ideal S8x128 .f32) shapeCasts_S8x128_S1x8x128 b
  exact le_of_form (mags_peak m) ((red_le _ _ b).trans (h.trans (rows_le (mvEnd m) b)))

variable {m} {x : FVec Ideal Cert.ReferenceIdeal.S4096x4096 .bf16} {w : FVec Ideal Cert.ReferenceIdeal.S4096x2048 .bf16}

theorem mvEnd_le_part (hp : Placed m x w) (b : EReal) : (mvEnd m c : EReal) ≤ b ↔ ∀ i, mag (part x w c i) ≤ b := by
  rw [mvEnd_le]
  constructor
  · intro h i
    obtain ⟨v, hv, hi⟩ := covered m c i
    obtain ⟨j, rfl⟩ : ∃ j, v.1.emb j = i := v.1.toLoadRect.exists_idx_of_mem hi
    rw [← stored hp c v hv j]
    exact h v hv j
  · intro h v hv j
    rw [stored hp c v hv j]
    exact h _

/-- The reference's reduction. -/
abbrev top (y : FVec Ideal Cert.ReferenceIdeal.S4096x2048 .f32) (q : Cert.ReferenceIdeal.S_.Idx) : EReal :=
  Host.reduce (FloatOps.maximumf (F := Ideal) (φ := .f32)) (Host.absf y) (constant (F := Ideal) Cert.ReferenceIdeal.S_ .f32 0xFF800000#32)
    Cert.ReferenceIdeal.Gen.reducesTo_S4096x2048_S_d0_1 Cert.ReferenceIdeal.Gen.h_S_ q
theorem top_le (y : FVec Ideal Cert.ReferenceIdeal.S4096x2048 .f32) (q : Cert.ReferenceIdeal.S_.Idx) (b : EReal) :
    top y q ≤ b ↔ ∀ i, mag (y i) ≤ b := by
  unfold top
  rw [Host.reduce_eq_fold]
  refine (Finset.fold_max_le (β := EReal) b).trans ?_
  constructor
  · rintro ⟨-, h2⟩ i
    exact h2 i (Finset.mem_filter.mpr ⟨Finset.mem_univ _, (eq_ix0 _).trans (eq_ix0 _).symm⟩)
  · intro h2
    exact ⟨by show Ideal.ofBits .f32 0xFF800000#32 ≤ b; rw [ninf]; exact bot_le, fun i _ => h2 i⟩

/-- Both take the greatest magnitude of the whole product. -/
theorem peak_eq (hp : Placed m x w) (q' : Cert.ReferenceIdeal.S_.Idx) :
    (extractAt ![0, 0, 0] (k0_pay39 (gaX m)) inpos_S1x1x1_p0_0_0 : EReal) = top (Cert.ReferenceIdeal.Run.prod x w) q' := by
  refine eq_of_forall_ge_iff fun b => ?_
  rw [peak_le, top_le]
  constructor
  · intro h i
    have hi : (i 1).val < 2048 := (i 1).isLt
    have hr : (i 0).val < 4096 := (i 0).isLt
    have e := (mvEnd_le_part ⟨(i 1).val / 256, by show _ < 8; omega⟩ hp b).mp (h _)
      (ix2 (⟨(i 0).val, hr⟩ : Fin 4096) (⟨(i 1).val % 256, by omega⟩ : Fin 256))
    rw [part_apply _ _ (i 0) (i 1) rfl (by show (i 1).val = 256 * ((i 1).val / 256) + (i 1).val % 256; omega)] at e
    rw [prod_apply]
    exact e
  · intro h c
    exact (mvEnd_le_part c hp b).mpr fun i => h _

end Cert.KernelIdeal.Ring
-- ==== Proof.Value.lean ====
/-
  The value: on extended reals every device ends with its columns of the reference's result. The scale is the same greatest
  magnitude over 127; the kernel multiplies by 127 over the greatest magnitude where the reference divides by the scale,
  which is the same unless the scale is zero, and then both results are zero.
-/
module

public import proofs.«01_k».proof.Defs
public import proofs.«01_k».proof.Proof.Peak

@[expose] public section

noncomputable section

namespace Cert.KernelIdeal.Ring

open Idealize.ShloMosaic Idealize.ShloMosaic.TcCoe Idealize.SL Idealize.SL.Sem
open Idealize.ShloMosaic.ValueIdx
open Cert.KernelIdeal.Gen

section Any
variable {F : FTy → Type} [FloatOps F]
/-- One element of the kernel's epilogue. -/
def kel (g y : F .f32) : F .f32 :=
  FloatOps.mulf (FloatOps.minimumf (Scalar.ofBits .f32 0x42FE0000#32) (FloatOps.maximumf (Scalar.ofBits .f32 0xC2FE0000#32)
    (FloatOps.roundeven (FloatOps.mulf y (Scalar.divf (Scalar.ofBits .f32 0x42FE0000#32) g))))) (Scalar.divf g (Scalar.ofBits .f32 0x42FE0000#32))
theorem pay1_apply (P : FVec F S1x1x1 .f32) (y : Vec F S4096x256 .f32) (i : S4096x256.Idx) :
    k0_pay1 P y i = kel (extractAt ![0, 0, 0] P inpos_S1x1x1_p0_0_0) (y i) := by
  have h : shapeCast S4096x256 y shapeCasts_S4096x256_S4096x256 = y := shapeCast_self y _
  unfold k0_pay1
  simp only [h]
  rfl
/-- One element of the reference's. -/
def rel (s y : F .f32) : F .f32 :=
  FloatOps.mulf (FloatOps.minimumf (Scalar.ofBits .f32 0x42FE0000#32) (FloatOps.maximumf (Scalar.ofBits .f32 0xC2FE0000#32)
    (FloatOps.hostUnary .roundeven (FloatOps.hostDivf y s)))) s
theorem quant_apply (y : FVec F Cert.ReferenceIdeal.S4096x2048 .f32) (i : Cert.ReferenceIdeal.S4096x2048.Idx) :
    Cert.ReferenceIdeal.Run.quant y i = rel (Cert.ReferenceIdeal.Run.scale y (fun a => a.elim0)) (y i) := by
  have h : Cert.ReferenceIdeal.Run.spread (Cert.ReferenceIdeal.Run.scale y) i = Cert.ReferenceIdeal.Run.scale y (fun a => a.elim0) := by
    unfold Cert.ReferenceIdeal.Run.spread broadcastInDim
    exact congrArg _ (funext fun a => a.elim0)
  unfold rel
  rw [← h]
  rfl
end Any

theorem c127 : Ideal.ofBits .f32 0x42FE0000#32 = ((127 : ℝ) : EReal) := by
  simp [Ideal.ofBits, Ideal.ieee, -EReal.coe_mul]; norm_num

/-- The two spellings of an element agree. -/
theorem el_eq (g y : Ideal .f32) : kel g y = rel (Ideal.div g (Ideal.ofBits .f32 0x42FE0000#32)) y := by
  have hC : (Ideal.ofBits .f32 0x42FE0000#32 : EReal) ≠ 0 := by rw [c127]; exact_mod_cast (by norm_num : (127 : ℝ) ≠ 0)
  show min (Ideal.ofBits .f32 0x42FE0000#32) (max (Ideal.ofBits .f32 0xC2FE0000#32)
      (Ideal.liftRound Ideal.roundHalfEven ((y : EReal) * Ideal.div (Ideal.ofBits .f32 0x42FE0000#32) g)))
        * Ideal.div g (Ideal.ofBits .f32 0x42FE0000#32)
    = min (Ideal.ofBits .f32 0x42FE0000#32) (max (Ideal.ofBits .f32 0xC2FE0000#32)
      (Ideal.liftRound Ideal.roundHalfEven (Ideal.div y (Ideal.div g (Ideal.ofBits .f32 0x42FE0000#32)))))
        * Ideal.div g (Ideal.ofBits .f32 0x42FE0000#32)
  have hs : Ideal.div g (Ideal.ofBits .f32 0x42FE0000#32) = (g : EReal) * (Ideal.ofBits .f32 0x42FE0000#32 : EReal)⁻¹ := by
    unfold Ideal.div; rw [if_neg hC]
  by_cases hg : (g : EReal) = 0
  · have h0 : Ideal.div g (Ideal.ofBits .f32 0x42FE0000#32) = 0 := by rw [hs, hg, zero_mul]
    rw [h0]; exact (mul_zero _).trans (mul_zero _).symm
  · have hq : (y : EReal) * Ideal.div (Ideal.ofBits .f32 0x42FE0000#32) g
        = Ideal.div y (Ideal.div g (Ideal.ofBits .f32 0x42FE0000#32)) := by
      have hn : (g : EReal) * (Ideal.ofBits .f32 0x42FE0000#32 : EReal)⁻¹ ≠ 0 := by
        rw [c127, ← EReal.coe_inv]
        exact mul_ne_zero hg (by exact_mod_cast (by norm_num : ((127 : ℝ)⁻¹) ≠ 0))
      rw [hs]
      unfold Ideal.div
      rw [if_neg hg, if_neg hn, EReal.mul_inv, c127, EReal.inv_inv (EReal.coe_ne_bot _) (EReal.coe_ne_top _),
        mul_comm (g : EReal)⁻¹]
    rw [hq]

variable {m : (ℓ : Loc nD τ sig) → Buf (Elt Ideal) ℓ}
variable {x : FVec Ideal Cert.ReferenceIdeal.S4096x4096 .bf16} {w : FVec Ideal Cert.ReferenceIdeal.S4096x2048 .bf16}

/-- Every device ends with its columns of the reference's result. -/
theorem outAt_eq (hp : Placed m x w) (c : Dev nD) :
    outAt m c = Layout.block ⟨2, ![4096, 256]⟩ ⟨2, ![4096, 2048]⟩ 1 8 c (Cert.ReferenceIdeal.Run.out x w) := by
  funext i
  rw [Layout.block_apply]
  unfold outAt Cert.ReferenceIdeal.Run.out
  rw [pay1_apply, quant_apply, yv_eq hp, el_eq, peak_eq hp (fun a => a.elim0)]
  rfl

theorem value : Cert.algebraic_KernelIdeal_ReferenceIdeal := fun m g m' g' _ hp => by
  have hp' : Placed m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := hp
  refine ⟨_, (θ_run defs _ _).mono (fun r h c => ⟨(h.1 c).1.trans (outAt_eq hp' c), (h.1 c).2⟩) (run_main (F := Ideal) m g),
    (θ_run Cert.ReferenceIdeal.defs _ _).mono (fun r h => h 0) (Cert.ReferenceIdeal.Run.run_main (F := Ideal) m' g')⟩

end Cert.KernelIdeal.Ring
-- ==== Proof.lean ====
module

public import proofs.«01_k».proof.Defs
public import proofs.«01_k».proof.Proof.Gen.Kernel
public import proofs.«01_k».proof.Proof.Same
public import proofs.«01_k».proof.Proof.Ref
public import proofs.«01_k».proof.Proof.Value

@[expose] public section

noncomputable section

namespace Cert.Proof

open Idealize.ShloMosaic Idealize.SL.Sem

/-- The ring's run at the bit-exact values: the kernel's text is its idealization's. -/
theorem frame_kernel : Cert.quiescent_Kernel := fun m ρ _ => by
  rw [defs_same]
  exact (θ_run Cert.KernelIdeal.defs _ _).mono (fun _ h => ⟨fun c => (h.1 c).2, h.2⟩) (Cert.KernelIdeal.Ring.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Run.run_main (F := Ideal) m ρ)

theorem claim : Cert.Claim := ⟨Cert.Kernel.Gen.facts, Cert.KernelIdeal.Gen.facts, Cert.ReferenceIdeal.Gen.facts,
  frame_kernel, frame_ideal, frame_reference, trivial, Cert.KernelIdeal.Ring.value⟩

end Cert.Proof

end
